-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_plain_params [hPre_plain_params : Cert.Pre_plain_params.Facts] (m : (ℓ : Loc Cert.KernelIdeal.nD Cert.KernelIdeal.τ Cert.KernelIdeal.sig) → Buf (Elt Ideal) ℓ) : Prop :=
  ∀ c : Dev Cert.KernelIdeal.nD,
    (Cert.Pre_plain_params.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_plain_params [hPre_plain_params : Cert.Pre_plain_params.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_plain_params.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_KernelIdeal_pre_plain_params [hKernelIdeal : Cert.KernelIdeal.Facts] [hPre_plain_params : Cert.Pre_plain_params.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_plain_params m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_plain_params [hReferenceIdeal : Cert.ReferenceIdeal.Facts] [hPre_plain_params : Cert.Pre_plain_params.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_plain_params m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  True

def algebraic_KernelIdeal_ReferenceIdeal_pre_plain_params [hKernelIdeal : Cert.KernelIdeal.Facts] [hReferenceIdeal : Cert.ReferenceIdeal.Facts] [hPre_plain_params : Cert.Pre_plain_params.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_plain_params m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v35_0)) (v1 : (c : Dev Cert.KernelIdeal.nD) → Buf (Elt Ideal) ((c.tc : Thread Cert.KernelIdeal.nD Cert.KernelIdeal.τ).loc Cert.KernelIdeal.main_v35_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35_0) = v0 c
          ∧ r.2.mem ((c.tc : Thread Cert.KernelIdeal.nD Cert.KernelIdeal.τ).loc Cert.KernelIdeal.main_v35_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v174) = v0 c
          ∧ r.2.mem ((c.tc : Thread Cert.ReferenceIdeal.nD Cert.ReferenceIdeal.τ).loc Cert.ReferenceIdeal.main_v212) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_plain_params : Cert.Pre_plain_params.Facts),
    quiescent_Kernel (hKernel := hKernel)
    ∧ quiescent_KernelIdeal (hKernelIdeal := hKernelIdeal)
    ∧ quiescent_KernelIdeal_pre_plain_params (hKernelIdeal := hKernelIdeal) (hPre_plain_params := hPre_plain_params)
    ∧ quiescent_ReferenceIdeal (hReferenceIdeal := hReferenceIdeal)
    ∧ quiescent_ReferenceIdeal_pre_plain_params (hReferenceIdeal := hReferenceIdeal) (hPre_plain_params := hPre_plain_params)
    ∧ preserves_Kernel_KernelIdeal
    ∧ algebraic_KernelIdeal_ReferenceIdeal_pre_plain_params (hKernelIdeal := hKernelIdeal) (hReferenceIdeal := hReferenceIdeal) (hPre_plain_params := hPre_plain_params)
-- ==== Pre_plain_params.lean ====
abbrev S8x4096x512 : Shape := ⟨3, ![8, 4096, 512]⟩
abbrev S8x512x512 : Shape := ⟨3, ![8, 512, 512]⟩
abbrev S8x4096 : Shape := ⟨2, ![8, 4096]⟩
abbrev S512x512 : Shape := ⟨2, ![512, 512]⟩
abbrev S512 : Shape := ⟨1, ![512]⟩
abbrev S1024x512 : Shape := ⟨2, ![1024, 512]⟩
abbrev S_ : Shape := ⟨0, ![]⟩

class Facts : Prop where
  bcast_S_S8x4096x512 : S_.BroadcastsInDim S8x4096x512 (![] : Fin 0 → Fin S8x4096x512.rank)
  reducesTo_S8x4096x512_S_d0_1_2 : S8x4096x512.ReducesTo [0, 1, 2] S_
  h_S_ : 0 < S_.numel
  bcast_S_S8x512x512 : S_.BroadcastsInDim S8x512x512 (![] : Fin 0 → Fin S8x512x512.rank)
  reducesTo_S8x512x512_S_d0_1_2 : S8x512x512.ReducesTo [0, 1, 2] S_
  bcast_S_S512 : S_.BroadcastsInDim S512 (![] : Fin 0 → Fin S512.rank)
  reducesTo_S512_S_d0 : S512.ReducesTo [0] S_

variable [Facts]

def fn_part3 {F : FTy → Type} [FloatOps F] (main_v20 : IVec S_ 1) (main_v23 : IVec S_ 1) (main_v26 : IVec S_ 1) (main_v29 : IVec S_ 1) (main_v32 : IVec S_ 1) (main_v35 : IVec S_ 1) (main_v38 : IVec S_ 1) (main_v41 : IVec S_ 1) (main_v45 : IVec S_ 1) : IVec S_ 1 :=
  let main_v46 : IVec S_ 1 := andi main_v45 main_v20
  let main_v47 : IVec S_ 1 := andi main_v46 main_v23
  let main_v48 : IVec S_ 1 := andi main_v47 main_v26
  let main_v49 : IVec S_ 1 := andi main_v48 main_v29
  let main_v50 : IVec S_ 1 := andi main_v49 main_v32
  let main_v51 : IVec S_ 1 := andi main_v50 main_v35
  let main_v52 : IVec S_ 1 := andi main_v51 main_v38
  let main_v53 : IVec S_ 1 := andi main_v52 main_v41
  main_v53

def fn_part2 {F : FTy → Type} [FloatOps F] (main_arg6 : FVec F S512 .f32) (main_arg10 : FVec F S512 .f32) (main_arg16 : FVec F S512 .f32) (main_arg17 : FVec F S512 .f32) (main_v3 : IVec S_ 1) (main_v7 : IVec S_ 1) (main_v11 : IVec S_ 1) (main_v14 : IVec S_ 1) (main_v17 : IVec S_ 1) (main_v20 : IVec S_ 1) (main_v23 : IVec S_ 1) (main_v26 : IVec S_ 1) (main_v29 : IVec S_ 1) : IVec S_ 1 :=
  let main_cst_16 : FVec F S_ .f32 := constant S_ .f32 0x00000000#32
  let main_v30 : FVec F S512 .f32 := broadcastInDim S512 ![] bcast_S_S512 main_cst_16
  let main_v31 : IVec S512 1 := cmpf .oeq main_arg17 main_v30
  let main_c_17 : IVec S_ 1 := constantI S_ 1 1#1
  let main_v32 : IVec S_ 1 := (fun x v => Host.reduce IntOp.andi x v reducesTo_S512_S_d0 h_S_) main_v31 main_c_17
  let main_cst_18 : FVec F S_ .f32 := constant S_ .f32 0x3F800000#32
  let main_v33 : FVec F S512 .f32 := broadcastInDim S512 ![] bcast_S_S512 main_cst_18
  let main_v34 : IVec S512 1 := cmpf .oeq main_arg6 main_v33
  let main_c_19 : IVec S_ 1 := constantI S_ 1 1#1
  let main_v35 : IVec S_ 1 := (fun x v => Host.reduce IntOp.andi x v reducesTo_S512_S_d0 h_S_) main_v34 main_c_19
  let main_cst_20 : FVec F S_ .f32 := constant S_ .f32 0x3F800000#32
  let main_v36 : FVec F S512 .f32 := broadcastInDim S512 ![] bcast_S_S512 main_cst_20
  let main_v37 : IVec S512 1 := cmpf .oeq main_arg10 main_v36
  let main_c_21 : IVec S_ 1 := constantI S_ 1 1#1
  let main_v38 : IVec S_ 1 := (fun x v => Host.reduce IntOp.andi x v reducesTo_S512_S_d0 h_S_) main_v37 main_c_21
  let main_cst_22 : FVec F S_ .f32 := constant S_ .f32 0x3F800000#32
  let main_v39 : FVec F S512 .f32 := broadcastInDim S512 ![] bcast_S_S512 main_cst_22
  let main_v40 : IVec S512 1 := cmpf .oeq main_arg16 main_v39
  let main_c_23 : IVec S_ 1 := constantI S_ 1 1#1
  let main_v41 : IVec S_ 1 := (fun x v => Host.reduce IntOp.andi x v reducesTo_S512_S_d0 h_S_) main_v40 main_c_23
  let main_v42 : IVec S_ 1 := andi main_v3 main_v7
  let main_v43 : IVec S_ 1 := andi main_v42 main_v11
  let main_v44 : IVec S_ 1 := andi main_v43 main_v14
  let main_v45 : IVec S_ 1 := andi main_v44 main_v17
  fn_part3 (F := F) main_v20 main_v23 main_v26 main_v29 main_v32 main_v35 main_v38 main_v41 main_v45

def fn_part1 {F : FTy → Type} [FloatOps F] (main_arg6 : FVec F S512 .f32) (main_arg7 : FVec F S512 .f32) (main_arg9 : FVec F S512 .f32) (main_arg10 : FVec F S512 .f32) (main_arg11 : FVec F S512 .f32) (main_arg13 : FVec F S512 .f32) (main_arg15 : FVec F S512 .f32) (main_arg16 : FVec F S512 .f32) (main_arg17 : FVec F S512 .f32) (main_v3 : IVec S_ 1) (main_v7 : IVec S_ 1) (main_v11 : IVec S_ 1) (main_v14 : IVec S_ 1) (main_cst_6 : FVec F S_ .f32) : IVec S_ 1 :=
  let main_v15 : FVec F S512 .f32 := broadcastInDim S512 ![] bcast_S_S512 main_cst_6
  let main_v16 : IVec S512 1 := cmpf .oeq main_arg7 main_v15
  let main_c_7 : IVec S_ 1 := constantI S_ 1 1#1
  let main_v17 : IVec S_ 1 := (fun x v => Host.reduce IntOp.andi x v reducesTo_S512_S_d0 h_S_) main_v16 main_c_7
  let main_cst_8 : FVec F S_ .f32 := constant S_ .f32 0x00000000#32
  let main_v18 : FVec F S512 .f32 := broadcastInDim S512 ![] bcast_S_S512 main_cst_8
  let main_v19 : IVec S512 1 := cmpf .oeq main_arg9 main_v18
  let main_c_9 : IVec S_ 1 := constantI S_ 1 1#1
  let main_v20 : IVec S_ 1 := (fun x v => Host.reduce IntOp.andi x v reducesTo_S512_S_d0 h_S_) main_v19 main_c_9
  let main_cst_10 : FVec F S_ .f32 := constant S_ .f32 0x00000000#32
  let main_v21 : FVec F S512 .f32 := broadcastInDim S512 ![] bcast_S_S512 main_cst_10
  let main_v22 : IVec S512 1 := cmpf .oeq main_arg11 main_v21
  let main_c_11 : IVec S_ 1 := constantI S_ 1 1#1
  let main_v23 : IVec S_ 1 := (fun x v => Host.reduce IntOp.andi x v reducesTo_S512_S_d0 h_S_) main_v22 main_c_11
  let main_cst_12 : FVec F S_ .f32 := constant S_ .f32 0x00000000#32
  let main_v24 : FVec F S512 .f32 := broadcastInDim S512 ![] bcast_S_S512 main_cst_12
  let main_v25 : IVec S512 1 := cmpf .oeq main_arg13 main_v24
  let main_c_13 : IVec S_ 1 := constantI S_ 1 1#1
  let main_v26 : IVec S_ 1 := (fun x v => Host.reduce IntOp.andi x v reducesTo_S512_S_d0 h_S_) main_v25 main_c_13
  let main_cst_14 : FVec F S_ .f32 := constant S_ .f32 0x00000000#32
  let main_v27 : FVec F S512 .f32 := broadcastInDim S512 ![] bcast_S_S512 main_cst_14
  let main_v28 : IVec S512 1 := cmpf .oeq main_arg15 main_v27
  let main_c_15 : IVec S_ 1 := constantI S_ 1 1#1
  let main_v29 : IVec S_ 1 := (fun x v => Host.reduce IntOp.andi x v reducesTo_S512_S_d0 h_S_) main_v28 main_c_15
  fn_part2 (F := F) main_arg6 main_arg10 main_arg16 main_arg17 main_v3 main_v7 main_v11 main_v14 main_v17 main_v20 main_v23 main_v26 main_v29

def fn {F : FTy → Type} [FloatOps F] (main_arg0 : FVec F S8x4096x512 .f32) (main_arg1 : FVec F S8x512x512 .f32) (main_arg2 : IVec S8x4096 32) (main_arg3 : FVec F S8x4096x512 .f32) (main_arg4 : FVec F S512x512 .f32) (main_arg5 : FVec F S512 .f32) (main_arg6 : FVec F S512 .f32) (main_arg7 : FVec F S512 .f32) (main_arg8 : FVec F S512x512 .f32) (main_arg9 : FVec F S512 .f32) (main_arg10 : FVec F S512 .f32) (main_arg11 : FVec F S512 .f32) (main_arg12 : FVec F S1024x512 .f32) (main_arg13 : FVec F S512 .f32) (main_arg14 : FVec F S1024x512 .f32) (main_arg15 : FVec F S512 .f32) (main_arg16 : FVec F S512 .f32) (main_arg17 : FVec F S512 .f32) : IVec S_ 1 :=
  let main_v0 : FVec F S8x4096x512 .f32 := Host.absf main_arg0
  let main_cst : FVec F S_ .f32 := constant S_ .f32 0x7F800000#32
  let main_v1 : FVec F S8x4096x512 .f32 := broadcastInDim S8x4096x512 ![] bcast_S_S8x4096x512 main_cst
  let main_v2 : IVec S8x4096x512 1 := cmpf .olt main_v0 main_v1
  let main_c : IVec S_ 1 := constantI S_ 1 1#1
  let main_v3 : IVec S_ 1 := (fun x v => Host.reduce IntOp.andi x v reducesTo_S8x4096x512_S_d0_1_2 h_S_) main_v2 main_c
  let main_v4 : FVec F S8x512x512 .f32 := Host.absf main_arg1
  let main_cst_0 : FVec F S_ .f32 := constant S_ .f32 0x7F800000#32
  let main_v5 : FVec F S8x512x512 .f32 := broadcastInDim S8x512x512 ![] bcast_S_S8x512x512 main_cst_0
  let main_v6 : IVec S8x512x512 1 := cmpf .olt main_v4 main_v5
  let main_c_1 : IVec S_ 1 := constantI S_ 1 1#1
  let main_v7 : IVec S_ 1 := (fun x v => Host.reduce IntOp.andi x v reducesTo_S8x512x512_S_d0_1_2 h_S_) main_v6 main_c_1
  let main_v8 : FVec F S8x4096x512 .f32 := Host.absf main_arg3
  let main_cst_2 : FVec F S_ .f32 := constant S_ .f32 0x7F800000#32
  let main_v9 : FVec F S8x4096x512 .f32 := broadcastInDim S8x4096x512 ![] bcast_S_S8x4096x512 main_cst_2
  let main_v10 : IVec S8x4096x512 1 := cmpf .olt main_v8 main_v9
  let main_c_3 : IVec S_ 1 := constantI S_ 1 1#1
  let main_v11 : IVec S_ 1 := (fun x v => Host.reduce IntOp.andi x v reducesTo_S8x4096x512_S_d0_1_2 h_S_) main_v10 main_c_3
  let main_cst_4 : FVec F S_ .f32 := constant S_ .f32 0x00000000#32
  let main_v12 : FVec F S512 .f32 := broadcastInDim S512 ![] bcast_S_S512 main_cst_4
  let main_v13 : IVec S512 1 := cmpf .oeq main_arg5 main_v12
  let main_c_5 : IVec S_ 1 := constantI S_ 1 1#1
  let main_v14 : IVec S_ 1 := (fun x v => Host.reduce IntOp.andi x v reducesTo_S512_S_d0 h_S_) main_v13 main_c_5
  let main_cst_6 : FVec F S_ .f32 := constant S_ .f32 0x00000000#32
  fn_part1 (F := F) main_arg6 main_arg7 main_arg9 main_arg10 main_arg11 main_arg13 main_arg15 main_arg16 main_arg17 main_v3 main_v7 main_v11 main_v14 main_cst_6
-- ==== Kernel.lean ====
abbrev S8x4096x512 : Shape := ⟨3, ![8, 4096, 512]⟩
abbrev S8x512x512 : Shape := ⟨3, ![8, 512, 512]⟩
abbrev S8x4096 : Shape := ⟨2, ![8, 4096]⟩
abbrev S512x512 : Shape := ⟨2, ![512, 512]⟩
abbrev S512 : Shape := ⟨1, ![512]⟩
abbrev S1024x512 : Shape := ⟨2, ![1024, 512]⟩
abbrev S16x1x2048 : Shape := ⟨3, ![16, 1, 2048]⟩
abbrev S_ : Shape := ⟨0, ![]⟩
abbrev S512x1 : Shape := ⟨2, ![512, 1]⟩
abbrev S1x2048x512 : Shape := ⟨3, ![1, 2048, 512]⟩
abbrev S1x1x2048 : Shape := ⟨3, ![1, 1, 2048]⟩
abbrev S1x512x512 : Shape := ⟨3, ![1, 512, 512]⟩
abbrev S512x640 : Shape := ⟨2, ![512, 640]⟩
abbrev S1x512 : Shape := ⟨2, ![1, 512]⟩
abbrev S512x1024 : Shape := ⟨2, ![512, 1024]⟩
abbrev S2048x512 : Shape := ⟨2, ![2048, 512]⟩
abbrev S1x2048 : Shape := ⟨2, ![1, 2048]⟩
abbrev S512x128 : Shape := ⟨2, ![512, 128]⟩

abbrev nBuf : Space → Nat
  | .hbm => 63
  | .vmem => 21
  | .smem => 0
  | _ => 0

abbrev bufTy : (tb : Table) → Fin (tcTables nBuf tb) → BufTy
  | .hbm, ⟨0, _⟩ => ⟨S8x4096x512, .f32⟩
  | .hbm, ⟨1, _⟩ => ⟨S8x512x512, .f32⟩
  | .hbm, ⟨2, _⟩ => ⟨S8x4096, .i32⟩
  | .hbm, ⟨3, _⟩ => ⟨S8x4096x512, .f32⟩
  | .hbm, ⟨4, _⟩ => ⟨S512x512, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S512x512, .f32⟩
  | .hbm, ⟨9, _⟩ => ⟨S512, .f32⟩
  | .hbm, ⟨10, _⟩ => ⟨S512, .f32⟩
  | .hbm, ⟨11, _⟩ => ⟨S512, .f32⟩
  | .hbm, ⟨12, _⟩ => ⟨S1024x512, .f32⟩
  | .hbm, ⟨13, _⟩ => ⟨S512, .f32⟩
  | .hbm, ⟨14, _⟩ => ⟨S1024x512, .f32⟩
  | .hbm, ⟨15, _⟩ => ⟨S512, .f32⟩
  | .hbm, ⟨16, _⟩ => ⟨S512, .f32⟩
  | .hbm, ⟨17, _⟩ => ⟨S512, .f32⟩
  | .hbm, ⟨18, _⟩ => ⟨S16x1x2048, .i32⟩
  | .hbm, ⟨19, _⟩ => ⟨S_, .f32⟩
  | .hbm, ⟨20, _⟩ => ⟨S512, .f32⟩
  | .hbm, ⟨21, _⟩ => ⟨S512x1, .f32⟩
  | .hbm, ⟨22, _⟩ => ⟨S_, .f32⟩
  | .hbm, ⟨23, _⟩ => ⟨S512x1, .f32⟩
  | .hbm, ⟨24, _⟩ => ⟨S512x1, .f32⟩
  | .hbm, ⟨25, _⟩ => ⟨S512x512, .f32⟩
  | .hbm, ⟨26, _⟩ => ⟨S512x512, .f32⟩
  | .hbm, ⟨27, _⟩ => ⟨S512x512, .bf16⟩
  | .hbm, ⟨28, _⟩ => ⟨S_, .f32⟩
  | .hbm, ⟨29, _⟩ => ⟨S512, .f32⟩
  | .hbm, ⟨30, _⟩ => ⟨S512x1, .f32⟩
  | .hbm, ⟨31, _⟩ => ⟨S_, .f32⟩
  | .hbm, ⟨32, _⟩ => ⟨S512x1, .f32⟩
  | .hbm, ⟨33, _⟩ => ⟨S512x1, .f32⟩
  | .hbm, ⟨34, _⟩ => ⟨S512x512, .f32⟩
  | .hbm, ⟨35, _⟩ => ⟨S512x512, .f32⟩
  | .hbm, ⟨36, _⟩ => ⟨S512x512, .bf16⟩
  | .hbm, ⟨37, _⟩ => ⟨S512x512, .f32⟩
  | .hbm, ⟨38, _⟩ => ⟨S512x512, .bf16⟩
  | .hbm, ⟨39, _⟩ => ⟨S512x512, .f32⟩
  | .hbm, ⟨40, _⟩ => ⟨S512x512, .bf16⟩
  | .hbm, ⟨41, _⟩ => ⟨S512x512, .f32⟩
  | .hbm, ⟨42, _⟩ => ⟨S_, .f32⟩
  | .hbm, ⟨43, _⟩ => ⟨S512, .f32⟩
  | .hbm, ⟨44, _⟩ => ⟨S512x1, .f32⟩
  | .hbm, ⟨45, _⟩ => ⟨S_, .f32⟩
  | .hbm, ⟨46, _⟩ => ⟨S512x1, .f32⟩
  | .hbm, ⟨47, _⟩ => ⟨S512x1, .f32⟩
  | .hbm, ⟨48, _⟩ => ⟨S512x512, .f32⟩
  | .hbm, ⟨49, _⟩ => ⟨S512x512, .f32⟩
  | .hbm, ⟨50, _⟩ => ⟨S512x512, .bf16⟩
  | .hbm, ⟨51, _⟩ => ⟨S512x512, .f32⟩
  | .hbm, ⟨52, _⟩ => ⟨S_, .f32⟩
  | .hbm, ⟨53, _⟩ => ⟨S512, .f32⟩
  | .hbm, ⟨54, _⟩ => ⟨S512x1, .f32⟩
  | .hbm, ⟨55, _⟩ => ⟨S_, .f32⟩
  | .hbm, ⟨56, _⟩ => ⟨S512x1, .f32⟩
  | .hbm, ⟨57, _⟩ => ⟨S512x1, .f32⟩
  | .hbm, ⟨58, _⟩ => ⟨S512x512, .f32⟩
  | .hbm, ⟨59, _⟩ => ⟨S512x512, .f32⟩
  | .hbm, ⟨60, _⟩ => ⟨S512x512, .bf16⟩
  | .hbm, ⟨61, _⟩ => ⟨S8x4096x512, .f32⟩
  | .hbm, ⟨62, _⟩ => ⟨S8x512x512, .f32⟩
  | .local _ .vmem, ⟨0, _⟩ => ⟨S1x2048x512, .f32⟩
  | .local _ .vmem, ⟨1, _⟩ => ⟨S1x2048x512, .f32⟩
  | .local _ .vmem, ⟨2, _⟩ => ⟨S1x2048x512, .f32⟩
  | .local _ .vmem, ⟨3, _⟩ => ⟨S1x2048x512, .f32⟩
  | .local _ .vmem, ⟨4, _⟩ => ⟨S1x1x2048, .i32⟩
  | .local _ .vmem, ⟨5, _⟩ => ⟨S1x1x2048, .i32⟩
  | .local _ .vmem, ⟨6, _⟩ => ⟨S1x512x512, .f32⟩
  | .local _ .vmem, ⟨7, _⟩ => ⟨S1x512x512, .f32⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S1x2048x512, .f32⟩
  | .local _ .vmem, ⟨15, _⟩ => ⟨S1x2048x512, .f32⟩
  | .local _ .vmem, ⟨16, _⟩ => ⟨S1x512x512, .f32⟩
  | .local _ .vmem, ⟨17, _⟩ => ⟨S1x512x512, .f32⟩
  | .local _ .vmem, ⟨18, _⟩ => ⟨S512x640, .f32⟩
  | .local _ .vmem, ⟨19, _⟩ => ⟨S1x512, .f32⟩
  | .local _ .vmem, ⟨20, _⟩ => ⟨S512x1024, .bf16⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_cst : Ref sig .tc := ⟨.hbm, 19, rfl⟩
abbrev main_v1 : Ref sig .tc := ⟨.hbm, 20, rfl⟩
abbrev main_v2 : Ref sig .tc := ⟨.hbm, 21, rfl⟩
abbrev main_cst_0 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_1 : Ref sig .tc := ⟨.hbm, 28, rfl⟩
abbrev main_v8 : Ref sig .tc := ⟨.hbm, 29, rfl⟩
abbrev main_v9 : Ref sig .tc := ⟨.hbm, 30, rfl⟩
abbrev main_cst_2 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_3 : Ref sig .tc := ⟨.hbm, 42, rfl⟩
abbrev main_v20 : Ref sig .tc := ⟨.hbm, 43, rfl⟩
abbrev main_v21 : Ref sig .tc := ⟨.hbm, 44, rfl⟩
abbrev main_cst_4 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_5 : Ref sig .tc := ⟨.hbm, 52, rfl⟩
abbrev main_v28 : Ref sig .tc := ⟨.hbm, 53, rfl⟩
abbrev main_v29 : Ref sig .tc := ⟨.hbm, 54, rfl⟩
abbrev main_cst_6 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35_0 : Ref sig .tc := ⟨.hbm, 61, rfl⟩
abbrev main_v35_1 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨2, ![8, 2], ![false, false]⟩

def k0_cond4 (i : grid0.Coords) : BitVec 1 :=
  let arg1 : BitVec 32 := BitVec.ofNat 32 (i 1).val
  let c1_i32 : BitVec 32 := 1#32
  let v239 : BitVec 1 := Scalar.cmpi .eq arg1 c1_i32
  let v240 : BitVec 32 := Scalar.extui v239
  let c0_i32_104 : BitVec 32 := 0#32
  let v241 : BitVec 1 := Scalar.cmpi .ne v240 c0_i32_104
  v241

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x2048x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== ReferenceIdeal.lean ====
abbrev S8x4096x512 : Shape := ⟨3, ![8, 4096, 512]⟩
abbrev S8x512x512 : Shape := ⟨3, ![8, 512, 512]⟩
abbrev S8x4096 : Shape := ⟨2, ![8, 4096]⟩
abbrev S512x512 : Shape := ⟨2, ![512, 512]⟩
abbrev S512 : Shape := ⟨1, ![512]⟩
abbrev S1024x512 : Shape := ⟨2, ![1024, 512]⟩
abbrev S_ : Shape := ⟨0, ![]⟩
abbrev S8 : Shape := ⟨1, ![8]⟩
abbrev S8x1 : Shape := ⟨2, ![8, 1]⟩
abbrev S8x4096x1 : Shape := ⟨3, ![8, 4096, 1]⟩
abbrev S8x4096x2 : Shape := ⟨3, ![8, 4096, 2]⟩
abbrev S8x512 : Shape := ⟨2, ![8, 512]⟩
abbrev S8x512x1 : Shape := ⟨3, ![8, 512, 1]⟩
abbrev S1x1x512 : Shape := ⟨3, ![1, 1, 512]⟩
abbrev S1 : Shape := ⟨1, ![1]⟩
abbrev S1x1x1 : Shape := ⟨3, ![1, 1, 1]⟩
abbrev S8x4096x1024 : Shape := ⟨3, ![8, 4096, 1024]⟩
abbrev S8x512x1024 : Shape := ⟨3, ![8, 512, 1024]⟩
abbrev S8x1x512 : Shape := ⟨3, ![8, 1, 512]⟩

abbrev nBuf : Space → Nat
  | .hbm => 308
  | .vmem => 0
  | .smem => 0
  | _ => 0

abbrev hbmTy0_0 (i : Nat) : BufTy := match i % 128 with
  | 0 => ⟨S8x4096x512, .f32⟩
  | 1 => ⟨S8x512x512, .f32⟩
  | 2 => ⟨S8x4096, .i32⟩
  | 3 => ⟨S8x4096x512, .f32⟩
  | 4 => ⟨S512x512, .f32⟩
  | 5 => ⟨S512, .f32⟩
  | 6 => ⟨S512, .f32⟩
  | 7 => ⟨S512, .f32⟩
  | 8 => ⟨S512x512, .f32⟩
  | 9 => ⟨S512, .f32⟩
  | 10 => ⟨S512, .f32⟩
  | 11 => ⟨S512, .f32⟩
  | 12 => ⟨S1024x512, .f32⟩
  | 13 => ⟨S512, .f32⟩
  | 14 => ⟨S1024x512, .f32⟩
  | 15 => ⟨S512, .f32⟩
  | 16 => ⟨S512, .f32⟩
  | 17 => ⟨S512, .f32⟩
  | 18 => ⟨S_, .i32⟩
  | 19 => ⟨S8x4096, .i32⟩
  | 20 => ⟨S8x4096, .i1⟩
  | 21 => ⟨S_, .i32⟩
  | 22 => ⟨S8x4096, .i32⟩
  | 23 => ⟨S8x4096, .i1⟩
  | 24 => ⟨S8x4096, .i1⟩
  | 25 => ⟨S_, .i32⟩
  | 26 => ⟨S_, .i32⟩
  | 27 => ⟨S8x4096, .i32⟩
  | 28 => ⟨S8x4096, .i32⟩
  | 29 => ⟨S8, .i32⟩
  | 30 => ⟨S8x1, .i32⟩
  | 31 => ⟨S8x4096, .i32⟩
  | 32 => ⟨S8x4096, .f32⟩
  | 33 => ⟨S_, .f32⟩
  | 34 => ⟨S8x512x512, .f32⟩
  | 35 => ⟨S8x4096x1, .f32⟩
  | 36 => ⟨S8x4096x512, .f32⟩
  | 37 => ⟨S8x4096x512, .f32⟩
  | 38 => ⟨S_, .i32⟩
  | 39 => ⟨S8x4096, .i32⟩
  | 40 => ⟨S8x4096, .i1⟩
  | 41 => ⟨S_, .i32⟩
  | 42 => ⟨S8x4096, .i32⟩
  | 43 => ⟨S8x4096, .i32⟩
  | 44 => ⟨S8x4096, .i32⟩
  | 45 => ⟨S_, .i32⟩
  | 46 => ⟨S8x4096, .i32⟩
  | 47 => ⟨S8x4096, .i1⟩
  | 48 => ⟨S_, .i32⟩
  | 49 => ⟨S8x4096, .i32⟩
  | 50 => ⟨S8x4096, .i32⟩
  | 51 => ⟨S8x4096, .i32⟩
  | 52 => ⟨S8x4096x1, .i32⟩
  | 53 => ⟨S8x4096x1, .i32⟩
  | 54 => ⟨S8x4096x2, .i32⟩
  | 55 => ⟨S8x512x512, .f32⟩
  | 56 => ⟨S_, .f32⟩
  | 57 => ⟨S8x512, .f32⟩
  | 58 => ⟨S_, .i32⟩
  | 59 => ⟨S8x4096, .i32⟩
  | 60 => ⟨S8x4096, .i1⟩
  | 61 => ⟨S_, .i32⟩
  | 62 => ⟨S8x4096, .i32⟩
  | 63 => ⟨S8x4096, .i32⟩
  | 64 => ⟨S8x4096, .i32⟩
  | 65 => ⟨S_, .i32⟩
  | 66 => ⟨S8x4096, .i32⟩
  | 67 => ⟨S8x4096, .i1⟩
  | 68 => ⟨S_, .i32⟩
  | 69 => ⟨S8x4096, .i32⟩
  | 70 => ⟨S8x4096, .i32⟩
  | 71 => ⟨S8x4096, .i32⟩
  | 72 => ⟨S8x4096x1, .i32⟩
  | 73 => ⟨S8x4096x1, .i32⟩
  | 74 => ⟨S8x4096x2, .i32⟩
  | 75 => ⟨S8x512, .f32⟩
  | 76 => ⟨S_, .f32⟩
  | 77 => ⟨S_, .f32⟩
  | 78 => ⟨S8x512, .f32⟩
  | 79 => ⟨S8x512, .f32⟩
  | 80 => ⟨S8x512x1, .f32⟩
  | 81 => ⟨S8x512x512, .f32⟩
  | 82 => ⟨S8x512x512, .f32⟩
  | 83 => ⟨S8x512x512, .f32⟩
  | 84 => ⟨S1x1x512, .f32⟩
  | 85 => ⟨S8x512x512, .f32⟩
  | 86 => ⟨S8x512x512, .f32⟩
  | 87 => ⟨S_, .f32⟩
  | 88 => ⟨S8x512, .f32⟩
  | 89 => ⟨S8x512x1, .f32⟩
  | 90 => ⟨S_, .f32⟩
  | 91 => ⟨S8x512x1, .f32⟩
  | 92 => ⟨S8x512x1, .f32⟩
  | 93 => ⟨S8x512x512, .f32⟩
  | 94 => ⟨S8x512x512, .f32⟩
  | 95 => ⟨S8x512x512, .f32⟩
  | 96 => ⟨S_, .f32⟩
  | 97 => ⟨S8x512, .f32⟩
  | 98 => ⟨S8x512x1, .f32⟩
  | 99 => ⟨S_, .f32⟩
  | 100 => ⟨S8x512x1, .f32⟩
  | 101 => ⟨S8x512x1, .f32⟩
  | 102 => ⟨S8x512x512, .f32⟩
  | 103 => ⟨S8x512x512, .f32⟩
  | 104 => ⟨S_, .f32⟩
  | 105 => ⟨S8x512x1, .f32⟩
  | 106 => ⟨S8x512x1, .f32⟩
  | 107 => ⟨S8x512x1, .f32⟩
  | 108 => ⟨S8x512x512, .f32⟩
  | 109 => ⟨S8x512x512, .f32⟩
  | 110 => ⟨S1x1x512, .f32⟩
  | 111 => ⟨S8x512x512, .f32⟩
  | 112 => ⟨S8x512x512, .f32⟩
  | 113 => ⟨S1x1x512, .f32⟩
  | 114 => ⟨S8x512x512, .f32⟩
  | 115 => ⟨S8x512x512, .f32⟩
  | 116 => ⟨S_, .f32⟩
  | 117 => ⟨S8x512x512, .f32⟩
  | 118 => ⟨S8x512x512, .f32⟩
  | 119 => ⟨S8x4096x1, .i32⟩
  | 120 => ⟨S_, .i32⟩
  | 121 => ⟨S8x4096x1, .i32⟩
  | 122 => ⟨S8x4096x1, .i1⟩
  | 123 => ⟨S_, .i32⟩
  | 124 => ⟨S8x4096x1, .i32⟩
  | 125 => ⟨S8x4096x1, .i32⟩
  | 126 => ⟨S8x4096x1, .i32⟩
  | 127 => ⟨S1, .i32⟩
  | _ => ⟨S8x4096x512, .f32⟩

abbrev hbmTy0_1 (i : Nat) : BufTy := match i % 128 with
  | 0 => ⟨S_, .i32⟩
  | 1 => ⟨S8x4096x1, .i32⟩
  | 2 => ⟨S8x4096x1, .i1⟩
  | 3 => ⟨S1x1x1, .i32⟩
  | 4 => ⟨S8x4096x1, .i32⟩
  | 5 => ⟨S8x4096x1, .i1⟩
  | 6 => ⟨S8x4096x1, .i1⟩
  | 7 => ⟨S_, .i1⟩
  | 8 => ⟨S8x4096, .i1⟩
  | 9 => ⟨S8x4096x512, .f32⟩
  | 10 => ⟨S8x4096x512, .i1⟩
  | 11 => ⟨S_, .f32⟩
  | 12 => ⟨S8x4096x512, .f32⟩
  | 13 => ⟨S8x4096x512, .f32⟩
  | 14 => ⟨S8x4096x1, .f32⟩
  | 15 => ⟨S8x4096x512, .f32⟩
  | 16 => ⟨S8x4096x512, .f32⟩
  | 17 => ⟨S8x4096x512, .f32⟩
  | 18 => ⟨S1x1x512, .f32⟩
  | 19 => ⟨S8x4096x512, .f32⟩
  | 20 => ⟨S8x4096x512, .f32⟩
  | 21 => ⟨S_, .f32⟩
  | 22 => ⟨S8x4096, .f32⟩
  | 23 => ⟨S8x4096x1, .f32⟩
  | 24 => ⟨S_, .f32⟩
  | 25 => ⟨S8x4096x1, .f32⟩
  | 26 => ⟨S8x4096x1, .f32⟩
  | 27 => ⟨S8x4096x512, .f32⟩
  | 28 => ⟨S8x4096x512, .f32⟩
  | 29 => ⟨S8x4096x512, .f32⟩
  | 30 => ⟨S_, .f32⟩
  | 31 => ⟨S8x4096, .f32⟩
  | 32 => ⟨S8x4096x1, .f32⟩
  | 33 => ⟨S_, .f32⟩
  | 34 => ⟨S8x4096x1, .f32⟩
  | 35 => ⟨S8x4096x1, .f32⟩
  | 36 => ⟨S8x4096x512, .f32⟩
  | 37 => ⟨S8x4096x512, .f32⟩
  | 38 => ⟨S_, .f32⟩
  | 39 => ⟨S8x4096x1, .f32⟩
  | 40 => ⟨S8x4096x1, .f32⟩
  | 41 => ⟨S8x4096x1, .f32⟩
  | 42 => ⟨S8x4096x512, .f32⟩
  | 43 => ⟨S8x4096x512, .f32⟩
  | 44 => ⟨S1x1x512, .f32⟩
  | 45 => ⟨S8x4096x512, .f32⟩
  | 46 => ⟨S8x4096x512, .f32⟩
  | 47 => ⟨S1x1x512, .f32⟩
  | 48 => ⟨S8x4096x512, .f32⟩
  | 49 => ⟨S8x4096x512, .f32⟩
  | 50 => ⟨S_, .f32⟩
  | 51 => ⟨S8x4096x512, .f32⟩
  | 52 => ⟨S8x4096x512, .f32⟩
  | 53 => ⟨S8x4096x1024, .f32⟩
  | 54 => ⟨S8x4096x512, .f32⟩
  | 55 => ⟨S1x1x512, .f32⟩
  | 56 => ⟨S8x4096x512, .f32⟩
  | 57 => ⟨S8x4096x512, .f32⟩
  | 58 => ⟨S8x4096x512, .f32⟩
  | 59 => ⟨S8x4096x512, .f32⟩
  | 60 => ⟨S_, .f32⟩
  | 61 => ⟨S8x4096x512, .f32⟩
  | 62 => ⟨S8x4096x512, .f32⟩
  | 63 => ⟨S_, .f32⟩
  | 64 => ⟨S8x4096x512, .f32⟩
  | 65 => ⟨S8x4096x512, .f32⟩
  | 66 => ⟨S8x4096x512, .f32⟩
  | 67 => ⟨S_, .f32⟩
  | 68 => ⟨S8x4096x512, .f32⟩
  | 69 => ⟨S8x4096x512, .f32⟩
  | 70 => ⟨S8x4096x512, .f32⟩
  | 71 => ⟨S8x4096x512, .f32⟩
  | 72 => ⟨S8x512x1024, .f32⟩
  | 73 => ⟨S8x512x512, .f32⟩
  | 74 => ⟨S1x1x512, .f32⟩
  | 75 => ⟨S8x512x512, .f32⟩
  | 76 => ⟨S8x512x512, .f32⟩
  | 77 => ⟨S8x512x512, .f32⟩
  | 78 => ⟨S8x512x512, .f32⟩
  | 79 => ⟨S_, .f32⟩
  | 80 => ⟨S8x512x512, .f32⟩
  | 81 => ⟨S8x512x512, .f32⟩
  | 82 => ⟨S_, .f32⟩
  | 83 => ⟨S8x512x512, .f32⟩
  | 84 => ⟨S8x512x512, .f32⟩
  | 85 => ⟨S8x512x512, .f32⟩
  | 86 => ⟨S_, .f32⟩
  | 87 => ⟨S8x512x512, .f32⟩
  | 88 => ⟨S8x512x512, .f32⟩
  | 89 => ⟨S8x512x512, .f32⟩
  | 90 => ⟨S8x512x512, .f32⟩
  | 91 => ⟨S8x4096x1024, .f32⟩
  | 92 => ⟨S8x4096x512, .f32⟩
  | 93 => ⟨S1x1x512, .f32⟩
  | 94 => ⟨S8x4096x512, .f32⟩
  | 95 => ⟨S8x4096x512, .f32⟩
  | 96 => ⟨S_, .f32⟩
  | 97 => ⟨S8x4096, .f32⟩
  | 98 => ⟨S8x4096x1, .f32⟩
  | 99 => ⟨S_, .f32⟩
  | 100 => ⟨S8x4096x1, .f32⟩
  | 101 => ⟨S8x4096x1, .f32⟩
  | 102 => ⟨S8x4096x512, .f32⟩
  | 103 => ⟨S8x4096x512, .f32⟩
  | 104 => ⟨S8x4096x512, .f32⟩
  | 105 => ⟨S_, .f32⟩
  | 106 => ⟨S8x4096, .f32⟩
  | 107 => ⟨S8x4096x1, .f32⟩
  | 108 => ⟨S_, .f32⟩
  | 109 => ⟨S8x4096x1, .f32⟩
  | 110 => ⟨S8x4096x1, .f32⟩
  | 111 => ⟨S8x4096x512, .f32⟩
  | 112 => ⟨S8x4096x512, .f32⟩
  | 113 => ⟨S_, .f32⟩
  | 114 => ⟨S8x4096x1, .f32⟩
  | 115 => ⟨S8x4096x1, .f32⟩
  | 116 => ⟨S8x4096x1, .f32⟩
  | 117 => ⟨S8x4096x512, .f32⟩
  | 118 => ⟨S8x4096x512, .f32⟩
  | 119 => ⟨S1x1x512, .f32⟩
  | 120 => ⟨S8x4096x512, .f32⟩
  | 121 => ⟨S8x4096x512, .f32⟩
  | 122 => ⟨S1x1x512, .f32⟩
  | 123 => ⟨S8x4096x512, .f32⟩
  | 124 => ⟨S8x4096x512, .f32⟩
  | 125 => ⟨S_, .f32⟩
  | 126 => ⟨S8x4096x512, .f32⟩
  | 127 => ⟨S8x4096x512, .f32⟩
  | _ => ⟨S8x4096x512, .f32⟩

abbrev hbmTy0_2 (i : Nat) : BufTy := match i % 128 with
  | 0 => ⟨S_, .f32⟩
  | 1 => ⟨S8x4096x512, .f32⟩
  | 2 => ⟨S8x4096x512, .f32⟩
  | 3 => ⟨S8x4096x512, .f32⟩
  | 4 => ⟨S_, .f32⟩
  | 5 => ⟨S8x512, .f32⟩
  | 6 => ⟨S8x1x512, .f32⟩
  | 7 => ⟨S_, .f32⟩
  | 8 => ⟨S8x1x512, .f32⟩
  | 9 => ⟨S8x1x512, .f32⟩
  | 10 => ⟨S8x512x512, .f32⟩
  | 11 => ⟨S8x512x1024, .f32⟩
  | 12 => ⟨S8x512x512, .f32⟩
  | 13 => ⟨S1x1x512, .f32⟩
  | 14 => ⟨S8x512x512, .f32⟩
  | 15 => ⟨S8x512x512, .f32⟩
  | 16 => ⟨S_, .f32⟩
  | 17 => ⟨S8x512, .f32⟩
  | 18 => ⟨S8x512x1, .f32⟩
  | 19 => ⟨S_, .f32⟩
  | 20 => ⟨S8x512x1, .f32⟩
  | 21 => ⟨S8x512x1, .f32⟩
  | 22 => ⟨S8x512x512, .f32⟩
  | 23 => ⟨S8x512x512, .f32⟩
  | 24 => ⟨S8x512x512, .f32⟩
  | 25 => ⟨S_, .f32⟩
  | 26 => ⟨S8x512, .f32⟩
  | 27 => ⟨S8x512x1, .f32⟩
  | 28 => ⟨S_, .f32⟩
  | 29 => ⟨S8x512x1, .f32⟩
  | 30 => ⟨S8x512x1, .f32⟩
  | 31 => ⟨S8x512x512, .f32⟩
  | 32 => ⟨S8x512x512, .f32⟩
  | 33 => ⟨S_, .f32⟩
  | 34 => ⟨S8x512x1, .f32⟩
  | 35 => ⟨S8x512x1, .f32⟩
  | 36 => ⟨S8x512x1, .f32⟩
  | 37 => ⟨S8x512x512, .f32⟩
  | 38 => ⟨S8x512x512, .f32⟩
  | 39 => ⟨S1x1x512, .f32⟩
  | 40 => ⟨S8x512x512, .f32⟩
  | 41 => ⟨S8x512x512, .f32⟩
  | 42 => ⟨S1x1x512, .f32⟩
  | 43 => ⟨S8x512x512, .f32⟩
  | 44 => ⟨S8x512x512, .f32⟩
  | 45 => ⟨S_, .f32⟩
  | 46 => ⟨S8x512x512, .f32⟩
  | 47 => ⟨S8x512x512, .f32⟩
  | 48 => ⟨S_, .f32⟩
  | 49 => ⟨S8x512x512, .f32⟩
  | 50 => ⟨S8x512x512, .f32⟩
  | 51 => ⟨S8x512x512, .f32⟩
  | _ => ⟨S8x4096x512, .f32⟩

abbrev hbmTy (i : Nat) : BufTy := match i / 128 with
  | 0 => hbmTy0_0 i
  | 1 => hbmTy0_1 i
  | 2 => hbmTy0_2 i
  | _ => ⟨S8x4096x512, .f32⟩

abbrev bufTy : (tb : Table) → Fin (tcTables nBuf tb) → BufTy
  | .hbm, ⟨i, _⟩ => hbmTy i
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_v0 : Ref sig .tc := ⟨.hbm, 19, rfl⟩
abbrev main_v1 : Ref sig .tc := ⟨.hbm, 20, rfl⟩
abbrev main_c_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_c_1 : Ref sig .tc := ⟨.hbm, 25, rfl⟩
abbrev main_call0_v0 : Ref sig .tc := ⟨.hbm, 26, rfl⟩
abbrev main_call0_v1 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_cst : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_c_2 : Ref sig .tc := ⟨.hbm, 38, rfl⟩
abbrev main_v14 : Ref sig .tc := ⟨.hbm, 39, rfl⟩
abbrev main_v15 : Ref sig .tc := ⟨.hbm, 40, rfl⟩
abbrev main_c_3 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_c_4 : Ref sig .tc := ⟨.hbm, 45, rfl⟩
abbrev main_v19 : Ref sig .tc := ⟨.hbm, 46, rfl⟩
abbrev main_v20 : Ref sig .tc := ⟨.hbm, 47, rfl⟩
abbrev main_c_5 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_cst_6 : Ref sig .tc := ⟨.hbm, 56, rfl⟩
abbrev main_v28 : Ref sig .tc := ⟨.hbm, 57, rfl⟩
abbrev main_c_7 : Ref sig .tc := ⟨.hbm, 58, rfl⟩
abbrev main_v29 : Ref sig .tc := ⟨.hbm, 59, rfl⟩
abbrev main_v30 : Ref sig .tc := ⟨.hbm, 60, rfl⟩
abbrev main_c_8 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_c_9 : Ref sig .tc := ⟨.hbm, 65, rfl⟩
abbrev main_v34 : Ref sig .tc := ⟨.hbm, 66, rfl⟩
abbrev main_v35 : Ref sig .tc := ⟨.hbm, 67, rfl⟩
abbrev main_c_10 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_cst_11 : Ref sig .tc := ⟨.hbm, 76, rfl⟩
abbrev main_call1_v0 : Ref sig .tc := ⟨.hbm, 77, rfl⟩
abbrev main_call1_v1 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_cst_12 : Ref sig .tc := ⟨.hbm, 87, rfl⟩
abbrev main_v51 : Ref sig .tc := ⟨.hbm, 88, rfl⟩
abbrev main_v52 : Ref sig .tc := ⟨.hbm, 89, rfl⟩
abbrev main_cst_13 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_cst_14 : Ref sig .tc := ⟨.hbm, 96, rfl⟩
abbrev main_v58 : Ref sig .tc := ⟨.hbm, 97, rfl⟩
abbrev main_v59 : Ref sig .tc := ⟨.hbm, 98, rfl⟩
abbrev main_cst_15 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_cst_16 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_call2_cst : Ref sig .tc := ⟨.hbm, 116, rfl⟩
abbrev main_call2_v0 : Ref sig .tc := ⟨.hbm, 117, rfl⟩
abbrev main_v75 : Ref sig .tc := ⟨.hbm, 118, rfl⟩
abbrev main_v76 : Ref sig .tc := ⟨.hbm, 119, rfl⟩
abbrev main_call3_c : Ref sig .tc := ⟨.hbm, 120, rfl⟩
abbrev main_call3_v0 : Ref sig .tc := ⟨.hbm, 121, rfl⟩
abbrev main_call3_v1 : Ref sig .tc := ⟨.hbm, 122, rfl⟩
abbrev main_call3_c_0 : Ref sig .tc := ⟨.hbm, 123, rfl⟩
abbrev main_call3_v2 : Ref sig .tc := ⟨.hbm, 124, rfl⟩
abbrev main_call3_v3 : Ref sig .tc := ⟨.hbm, 125, rfl⟩
abbrev main_call3_v4 : Ref sig .tc := ⟨.hbm, 126, rfl⟩
abbrev main_call3_c_1 : Ref sig .tc := ⟨.hbm, 127, rfl⟩
abbrev main_call3_c_2 : Ref sig .tc := ⟨.hbm, 128, rfl⟩
abbrev main_call3_v5 : Ref sig .tc := ⟨.hbm, 129, rfl⟩
abbrev main_call3_v6 : Ref sig .tc := ⟨.hbm, 130, rfl⟩
abbrev main_call3_v7 : Ref sig .tc := ⟨.hbm, 131, rfl⟩
abbrev main_call3_v8 : Ref sig .tc := ⟨.hbm, 132, rfl⟩
abbrev main_call3_v9 : Ref sig .tc := ⟨.hbm, 133, rfl⟩
abbrev main_call3_v10 : Ref sig .tc := ⟨.hbm, 134, rfl⟩
abbrev main_call3_c_3 : Ref sig .tc := ⟨.hbm, 135, rfl⟩
abbrev main_call3_v11 : Ref sig .tc := ⟨.hbm, 136, rfl⟩
abbrev main_call3_v12 : Ref sig .tc := ⟨.hbm, 137, rfl⟩
abbrev main_call3_v13 : Ref sig .tc := ⟨.hbm, 138, rfl⟩
abbrev main_call3_cst : Ref sig .tc := ⟨.hbm, 139, rfl⟩
abbrev main_call3_v14 : Ref sig .tc := ⟨.hbm, 140, rfl⟩
abbrev main_v77 : Ref sig .tc := ⟨.hbm, 141, rfl⟩
abbrev main_v78 : Ref sig .tc := ⟨.hbm, 142, rfl⟩
abbrev main_v79 : Ref sig .tc := ⟨.hbm, 143, rfl⟩
abbrev main_v80 : Ref sig .tc := ⟨.hbm, 144, rfl⟩
abbrev main_v81 : Ref sig .tc := ⟨.hbm, 145, rfl⟩
abbrev main_v82 : Ref sig .tc := ⟨.hbm, 146, rfl⟩
abbrev main_v83 : Ref sig .tc := ⟨.hbm, 147, rfl⟩
abbrev main_v84 : Ref sig .tc := ⟨.hbm, 148, rfl⟩
abbrev main_cst_17 : Ref sig .tc := ⟨.hbm, 149, rfl⟩
abbrev main_v85 : Ref sig .tc := ⟨.hbm, 150, rfl⟩
abbrev main_v86 : Ref sig .tc := ⟨.hbm, 151, rfl⟩
abbrev main_cst_18 : Ref sig .tc := ⟨.hbm, 152, rfl⟩
abbrev main_v87 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_v91 : Ref sig .tc := ⟨.hbm, 157, rfl⟩
abbrev main_cst_19 : Ref sig .tc := ⟨.hbm, 158, rfl⟩
abbrev main_v92 : Ref sig .tc := ⟨.hbm, 159, rfl⟩
abbrev main_v93 : Ref sig .tc := ⟨.hbm, 160, rfl⟩
abbrev main_cst_20 : Ref sig .tc := ⟨.hbm, 161, rfl⟩
abbrev main_v94 : Ref sig .tc := ⟨.hbm, 162, rfl⟩
abbrev main_v95 : Ref sig .tc := ⟨.hbm, 163, rfl⟩
abbrev main_v96 : Ref sig .tc := ⟨.hbm, 164, rfl⟩
abbrev main_v97 : Ref sig .tc := ⟨.hbm, 165, rfl⟩
abbrev main_cst_21 : Ref sig .tc := ⟨.hbm, 166, rfl⟩
abbrev main_v98 : Ref sig .tc := ⟨.hbm, 167, rfl⟩
abbrev main_v99 : Ref sig .tc := ⟨.hbm, 168, rfl⟩
abbrev main_v100 : Ref sig .tc := ⟨.hbm, 169, rfl⟩
abbrev main_v101 : Ref sig .tc := ⟨.hbm, 170, rfl⟩
abbrev main_v102 : Ref sig .tc := ⟨.hbm, 171, rfl⟩
abbrev main_v103 : Ref sig .tc := ⟨.hbm, 172, rfl⟩
abbrev main_v104 : Ref sig .tc := ⟨.hbm, 173, rfl⟩
abbrev main_v105 : Ref sig .tc := ⟨.hbm, 174, rfl⟩
abbrev main_v106 : Ref sig .tc := ⟨.hbm, 175, rfl⟩
abbrev main_v107 : Ref sig .tc := ⟨.hbm, 176, rfl⟩
abbrev main_v108 : Ref sig .tc := ⟨.hbm, 177, rfl⟩
abbrev main_call4_cst : Ref sig .tc := ⟨.hbm, 178, rfl⟩
abbrev main_call4_v0 : Ref sig .tc := ⟨.hbm, 179, rfl⟩
abbrev main_v109 : Ref sig .tc := ⟨.hbm, 180, rfl⟩
abbrev main_v110 : Ref sig .tc := ⟨.hbm, 181, rfl⟩
abbrev main_v111 : Ref sig .tc := ⟨.hbm, 182, rfl⟩
abbrev main_v112 : Ref sig .tc := ⟨.hbm, 183, rfl⟩
abbrev main_v113 : Ref sig .tc := ⟨.hbm, 184, rfl⟩
abbrev main_v114 : Ref sig .tc := ⟨.hbm, 185, rfl⟩
abbrev main_v115 : Ref sig .tc := ⟨.hbm, 186, rfl⟩
abbrev main_v116 : Ref sig .tc := ⟨.hbm, 187, rfl⟩
abbrev main_cst_22 : Ref sig .tc := ⟨.hbm, 188, rfl⟩
abbrev main_v117 : Ref sig .tc := ⟨.hbm, 189, rfl⟩
abbrev main_v118 : Ref sig .tc := ⟨.hbm, 190, rfl⟩
abbrev main_cst_23 : Ref sig .tc := ⟨.hbm, 191, rfl⟩
abbrev main_v119 : Ref sig .tc := ⟨.hbm, 192, rfl⟩
abbrev main_v120 : Ref sig .tc := ⟨.hbm, 193, rfl⟩
abbrev main_v121 : Ref sig .tc := ⟨.hbm, 194, rfl⟩
abbrev main_cst_24 : Ref sig .tc := ⟨.hbm, 195, rfl⟩
abbrev main_v122 : Ref sig .tc := ⟨.hbm, 196, rfl⟩
abbrev main_v123 : Ref sig .tc := ⟨.hbm, 197, rfl⟩
abbrev main_v124 : Ref sig .tc := ⟨.hbm, 198, rfl⟩
abbrev main_v125 : Ref sig .tc := ⟨.hbm, 199, rfl⟩
abbrev main_v126 : Ref sig .tc := ⟨.hbm, 200, rfl⟩
abbrev main_v127 : Ref sig .tc := ⟨.hbm, 201, rfl⟩
abbrev main_v128 : Ref sig .tc := ⟨.hbm, 202, rfl⟩
abbrev main_v129 : Ref sig .tc := ⟨.hbm, 203, rfl⟩
abbrev main_v130 : Ref sig .tc := ⟨.hbm, 204, rfl⟩
abbrev main_v131 : Ref sig .tc := ⟨.hbm, 205, rfl⟩
abbrev main_v132 : Ref sig .tc := ⟨.hbm, 206, rfl⟩
abbrev main_cst_25 : Ref sig .tc := ⟨.hbm, 207, rfl⟩
abbrev main_v133 : Ref sig .tc := ⟨.hbm, 208, rfl⟩
abbrev main_v134 : Ref sig .tc := ⟨.hbm, 209, rfl⟩
abbrev main_cst_26 : Ref sig .tc := ⟨.hbm, 210, rfl⟩
abbrev main_v135 : Ref sig .tc := ⟨.hbm, 211, rfl⟩
abbrev main_v136 : Ref sig .tc := ⟨.hbm, 212, rfl⟩
abbrev main_v137 : Ref sig .tc := ⟨.hbm, 213, rfl⟩
abbrev main_cst_27 : Ref sig .tc := ⟨.hbm, 214, rfl⟩
abbrev main_v138 : Ref sig .tc := ⟨.hbm, 215, rfl⟩
abbrev main_v139 : Ref sig .tc := ⟨.hbm, 216, rfl⟩
abbrev main_v140 : Ref sig .tc := ⟨.hbm, 217, rfl⟩
abbrev main_v141 : Ref sig .tc := ⟨.hbm, 218, rfl⟩
abbrev main_v142 : Ref sig .tc := ⟨.hbm, 219, rfl⟩
abbrev main_v143 : Ref sig .tc := ⟨.hbm, 220, rfl⟩
abbrev main_v144 : Ref sig .tc := ⟨.hbm, 221, rfl⟩
abbrev main_v145 : Ref sig .tc := ⟨.hbm, 222, rfl⟩
abbrev main_v146 : Ref sig .tc := ⟨.hbm, 223, rfl⟩
abbrev main_cst_28 : Ref sig .tc := ⟨.hbm, 224, rfl⟩
abbrev main_v147 : Ref sig .tc := ⟨.hbm, 225, rfl⟩
abbrev main_v148 : Ref sig .tc := ⟨.hbm, 226, rfl⟩
abbrev main_cst_29 : Ref sig .tc := ⟨.hbm, 227, rfl⟩
abbrev main_v149 : Ref sig .tc := ⟨.hbm, 228, rfl⟩
abbrev main_v150 : Ref sig .tc := ⟨.hbm, 229, rfl⟩
abbrev main_v151 : Ref sig .tc := ⟨.hbm, 230, rfl⟩
abbrev main_v152 : Ref sig .tc := ⟨.hbm, 231, rfl⟩
abbrev main_v153 : Ref sig .tc := ⟨.hbm, 232, rfl⟩
abbrev main_cst_30 : Ref sig .tc := ⟨.hbm, 233, rfl⟩
abbrev main_v154 : Ref sig .tc := ⟨.hbm, 234, rfl⟩
abbrev main_v155 : Ref sig .tc := ⟨.hbm, 235, rfl⟩
abbrev main_cst_31 : Ref sig .tc := ⟨.hbm, 236, rfl⟩
abbrev main_v156 : Ref sig .tc := ⟨.hbm, 237, rfl⟩
abbrev main_v157 : Ref sig .tc := ⟨.hbm, 238, rfl⟩
abbrev main_v158 : Ref sig .tc := ⟨.hbm, 239, rfl⟩
abbrev main_v159 : Ref sig .tc := ⟨.hbm, 240, rfl⟩
abbrev main_cst_32 : Ref sig .tc := ⟨.hbm, 241, rfl⟩
abbrev main_v160 : Ref sig .tc := ⟨.hbm, 242, rfl⟩
abbrev main_v161 : Ref sig .tc := ⟨.hbm, 243, rfl⟩
abbrev main_v162 : Ref sig .tc := ⟨.hbm, 244, rfl⟩
abbrev main_v163 : Ref sig .tc := ⟨.hbm, 245, rfl⟩
abbrev main_v164 : Ref sig .tc := ⟨.hbm, 246, rfl⟩
abbrev main_v165 : Ref sig .tc := ⟨.hbm, 247, rfl⟩
abbrev main_v166 : Ref sig .tc := ⟨.hbm, 248, rfl⟩
abbrev main_v167 : Ref sig .tc := ⟨.hbm, 249, rfl⟩
abbrev main_v168 : Ref sig .tc := ⟨.hbm, 250, rfl⟩
abbrev main_v169 : Ref sig .tc := ⟨.hbm, 251, rfl⟩
abbrev main_v170 : Ref sig .tc := ⟨.hbm, 252, rfl⟩
abbrev main_call5_cst : Ref sig .tc := ⟨.hbm, 253, rfl⟩
abbrev main_call5_v0 : Ref sig .tc := ⟨.hbm, 254, rfl⟩
abbrev main_v171 : Ref sig .tc := ⟨.hbm, 255, rfl⟩
abbrev main_cst_33 : Ref sig .tc := ⟨.hbm, 256, rfl⟩
abbrev main_v172 : Ref sig .tc := ⟨.hbm, 257, rfl⟩
abbrev main_v173 : Ref sig .tc := ⟨.hbm, 258, rfl⟩
abbrev main_v174 : Ref sig .tc := ⟨.hbm, 259, rfl⟩
abbrev main_cst_34 : Ref sig .tc := ⟨.hbm, 260, rfl⟩
abbrev main_v175 : Ref sig .tc := ⟨.hbm, 261, rfl⟩
abbrev main_v176 : Ref sig .tc := ⟨.hbm, 262, rfl⟩
abbrev main_cst_35 : Ref sig .tc := ⟨.hbm, 263, rfl⟩
abbrev main_v177 : Ref sig .tc := ⟨.hbm, 264, rfl⟩
abbrev main_v178 : Ref sig .tc := ⟨.hbm, 265, rfl⟩
abbrev main_v179 : Ref sig .tc := ⟨.hbm, 266, rfl⟩
abbrev main_v180 : Ref sig .tc := ⟨.hbm, 267, rfl⟩
abbrev main_v181 : Ref sig .tc := ⟨.hbm, 268, rfl⟩
abbrev main_v182 : Ref sig .tc := ⟨.hbm, 269, rfl⟩
abbrev main_v183 : Ref sig .tc := ⟨.hbm, 270, rfl⟩
abbrev main_v184 : Ref sig .tc := ⟨.hbm, 271, rfl⟩
abbrev main_cst_36 : Ref sig .tc := ⟨.hbm, 272, rfl⟩
abbrev main_v185 : Ref sig .tc := ⟨.hbm, 273, rfl⟩
abbrev main_v186 : Ref sig .tc := ⟨.hbm, 274, rfl⟩
abbrev main_cst_37 : Ref sig .tc := ⟨.hbm, 275, rfl⟩
abbrev main_v187 : Ref sig .tc := ⟨.hbm, 276, rfl⟩
abbrev main_v188 : Ref sig .tc := ⟨.hbm, 277, rfl⟩
abbrev main_v189 : Ref sig .tc := ⟨.hbm, 278, rfl⟩
abbrev main_v190 : Ref sig .tc := ⟨.hbm, 279, rfl⟩
abbrev main_v191 : Ref sig .tc := ⟨.hbm, 280, rfl⟩
abbrev main_cst_38 : Ref sig .tc := ⟨.hbm, 281, rfl⟩
abbrev main_v192 : Ref sig .tc := ⟨.hbm, 282, rfl⟩
abbrev main_v193 : Ref sig .tc := ⟨.hbm, 283, rfl⟩
abbrev main_cst_39 : Ref sig .tc := ⟨.hbm, 284, rfl⟩
abbrev main_v194 : Ref sig .tc := ⟨.hbm, 285, rfl⟩
abbrev main_v195 : Ref sig .tc := ⟨.hbm, 286, rfl⟩
abbrev main_v196 : Ref sig .tc := ⟨.hbm, 287, rfl⟩
abbrev main_v197 : Ref sig .tc := ⟨.hbm, 288, rfl⟩
abbrev main_cst_40 : Ref sig .tc := ⟨.hbm, 289, rfl⟩
abbrev main_v198 : Ref sig .tc := ⟨.hbm, 290, rfl⟩
abbrev main_v199 : Ref sig .tc := ⟨.hbm, 291, rfl⟩
abbrev main_v200 : Ref sig .tc := ⟨.hbm, 292, rfl⟩
abbrev main_v201 : Ref sig .tc := ⟨.hbm, 293, rfl⟩
abbrev main_v202 : Ref sig .tc := ⟨.hbm, 294, rfl⟩
abbrev main_v203 : Ref sig .tc := ⟨.hbm, 295, rfl⟩
abbrev main_v204 : Ref sig .tc := ⟨.hbm, 296, rfl⟩
abbrev main_v205 : Ref sig .tc := ⟨.hbm, 297, rfl⟩
abbrev main_v206 : Ref sig .tc := ⟨.hbm, 298, rfl⟩
abbrev main_v207 : Ref sig .tc := ⟨.hbm, 299, rfl⟩
abbrev main_v208 : Ref sig .tc := ⟨.hbm, 300, rfl⟩
abbrev main_call6_cst : Ref sig .tc := ⟨.hbm, 301, rfl⟩
abbrev main_call6_v0 : Ref sig .tc := ⟨.hbm, 302, rfl⟩
abbrev main_v209 : Ref sig .tc := ⟨.hbm, 303, rfl⟩
abbrev main_cst_41 : Ref sig .tc := ⟨.hbm, 304, rfl⟩
abbrev main_v210 : Ref sig .tc := ⟨.hbm, 305, rfl⟩
abbrev main_v211 : Ref sig .tc := ⟨.hbm, 306, rfl⟩
abbrev main_v212 : Ref sig .tc := ⟨.hbm, 307, rfl⟩

abbrev nD : Nat := 1
abbrev τ : Topo := Topo.v7x

variable {F : FTy → Type} [FloatOps F]
-- ==== Proof.Reals.lean ====
/-
  Rows of real numbers: products with a matrix, means, and the two ways of taking a mean off.

  The kernel centres the weights before the product, the reference centres the product's row.
-/
module

public import Idealize.ShloMosaic.PureOps.Ideal
public import Idealize.ShloMosaic.Lib.Pointwise.Sums

@[expose] public section

noncomputable section

namespace Cert.Reals

/-- One row of features: those of one atom or of one coarse node. -/
abbrev Row := Fin 512 → ℝ

/-- A square matrix, by rows. -/
abbrev Mat := Fin 512 → Row

/-- The number the normalisation adds to the variance. -/
def eps : ℝ := 10995116 / 2 ^ 40

/-- The weight of the global update. -/
def tenth : ℝ := 13421773 / 2 ^ 27

theorem eps_pos : 0 < eps := by unfold eps; norm_num

theorem tenth_nonneg : 0 ≤ tenth := by unfold tenth; norm_num

/-- The row `x` times the matrix `W`: `W k j` takes feature `k` to feature `j`. -/
def lin (x : Row) (W : Mat) : Row := fun j => ∑ k, x k * W k j

/-- The mean of a row. -/
def mean (x : Row) : ℝ := (∑ k, x k) / 512

/-- The matrix whose rows have their means taken off. -/
def center (W : Mat) : Mat := fun k j => W k j - mean (W k)

/-- One over the root of a row's mean square and `eps`. -/
def inv (z : Row) : ℝ := (√(mean (fun k => z k * z k) + eps))⁻¹

theorem lin_center (x : Row) (W : Mat) (j : Fin 512) : lin x (center W) j = lin x W j - mean (lin x W) := by
  have hm : mean (lin x W) = ∑ k, x k * mean (W k) := by
    unfold mean lin
    rw [Finset.sum_comm, Finset.sum_div]
    refine Finset.sum_congr rfl fun k _ => ?_
    rw [← Finset.mul_sum]
    ring
  rw [hm]
  unfold lin center
  rw [← Finset.sum_sub_distrib]
  exact Finset.sum_congr rfl fun k _ => by ring

theorem mean_add (x y : Row) : mean (fun j => x j + y j) = mean x + mean y := by
  unfold mean
  rw [Finset.sum_add_distrib, add_div]

/-! ## Sums over the atoms, slice by slice and tile by tile -/

/-- A sum over 2048 rows is the four slices' sums, added in order. -/
theorem sum_slices (f : Fin 2048 → ℝ) :
    ∑ r, f r = (∑ i : Fin 512, f ⟨i, by omega⟩) + (∑ i : Fin 512, f ⟨512 + i, by omega⟩)
      + (∑ i : Fin 512, f ⟨1024 + i, by omega⟩) + (∑ i : Fin 512, f ⟨1536 + i, by omega⟩) := by
  rw [Idealize.ShloMosaic.Fin.sum_univ_tiles 4 512 rfl f, Fin.sum_univ_four]
  simp only [Fin.isValue, Fin.val_zero, zero_mul, zero_add, Fin.val_one, one_mul, Fin.val_two, Nat.reduceMul]
  rfl

/-- A sum over the 4096 atoms is the first tile's sum and the second's. -/
theorem sum_tiles (f : Fin 4096 → ℝ) :
    ∑ n, f n = (∑ r : Fin 2048, f ⟨r, by omega⟩) + (∑ r : Fin 2048, f ⟨2048 + r, by omega⟩) := by
  rw [Idealize.ShloMosaic.Fin.sum_univ_tiles 2 2048 rfl f, Fin.sum_univ_two]
  simp only [Fin.isValue, Fin.val_zero, zero_mul, zero_add, Fin.val_one, one_mul]

end Cert.Reals

end
-- ==== Proof.Lift.lean ====
/-
  Arrays of reals and of extended reals as the programs' arrays, and the extended-real operations on them: on real operands each is the
  real operation. A stage of the kernel or of the reference is read at an index, and these turn what is read into one
  real number.
-/
module

public import proofs.«01_k».proof.Proof.Reals
public import Idealize.ShloMosaic.Lib.Pointwise
public import Idealize.ShloMosaic.PureOps.Ideal.Laws

@[expose] public section

set_option maxRecDepth 16384

noncomputable section

open Idealize.ShloMosaic

namespace Cert.Lift

open Cert.Reals

/-- A matrix of reals as an array of extended reals. -/
def up2 {a b : ℕ} (f : Fin a → Fin b → ℝ) : (⟨2, ![a, b]⟩ : Shape).Idx → EReal := fun i => ((f (i 0) (i 1) : ℝ) : EReal)

/-- A three-axis array of reals as an array of extended reals. -/
def up3 {a b c : ℕ} (f : Fin a → Fin b → Fin c → ℝ) : (⟨3, ![a, b, c]⟩ : Shape).Idx → EReal :=
  fun i => ((f (i 0) (i 1) (i 2) : ℝ) : EReal)

/-- A matrix of extended reals as an array. -/
def raw2 {a b : ℕ} (f : Fin a → Fin b → EReal) : (⟨2, ![a, b]⟩ : Shape).Idx → EReal := fun i => f (i 0) (i 1)

/-- A three-axis family of extended reals as an array. -/
def raw3 {a b c : ℕ} (f : Fin a → Fin b → Fin c → EReal) : (⟨3, ![a, b, c]⟩ : Shape).Idx → EReal :=
  fun i => f (i 0) (i 1) (i 2)

theorem raw2_at {a b : ℕ} (f : Fin a → Fin b → EReal) (i : Fin a) (j : Fin b) : raw2 f (ix2 i j) = f i j := rfl

theorem raw3_at {a b c : ℕ} (f : Fin a → Fin b → Fin c → EReal) (i : Fin a) (j : Fin b) (k : Fin c) :
    raw3 f (ix3 i j k) = f i j k := rfl

theorem raw2_of {a b : ℕ} (f : Fin a → Fin b → EReal) (i : (⟨2, ![a, b]⟩ : Shape).Idx) (p : Fin a) (q : Fin b)
    (h0 : (i 0).val = p.val) (h1 : (i 1).val = q.val) : raw2 f i = f p q := by
  have e0 : i 0 = p := Fin.ext h0
  have e1 : i 1 = q := Fin.ext h1
  show f (i 0) (i 1) = _
  rw [e0, e1]

theorem up2_at {a b : ℕ} (f : Fin a → Fin b → ℝ) (i : Fin a) (j : Fin b) : up2 f (ix2 i j) = ((f i j : ℝ) : EReal) := rfl

theorem up3_at {a b c : ℕ} (f : Fin a → Fin b → Fin c → ℝ) (i : Fin a) (j : Fin b) (k : Fin c) :
    up3 f (ix3 i j k) = ((f i j k : ℝ) : EReal) := rfl

theorem up2_of {a b : ℕ} (f : Fin a → Fin b → ℝ) (i : (⟨2, ![a, b]⟩ : Shape).Idx) (p : Fin a) (q : Fin b)
    (h0 : (i 0).val = p.val) (h1 : (i 1).val = q.val) : up2 f i = ((f p q : ℝ) : EReal) := by
  have e0 : i 0 = p := Fin.ext h0
  have e1 : i 1 = q := Fin.ext h1
  show ((f (i 0) (i 1) : ℝ) : EReal) = _
  rw [e0, e1]

theorem up3_of {a b c : ℕ} (f : Fin a → Fin b → Fin c → ℝ) (i : (⟨3, ![a, b, c]⟩ : Shape).Idx) (p : Fin a) (q : Fin b) (r : Fin c)
    (h0 : (i 0).val = p.val) (h1 : (i 1).val = q.val) (h2 : (i 2).val = r.val) : up3 f i = ((f p q r : ℝ) : EReal) := by
  have e0 : i 0 = p := Fin.ext h0
  have e1 : i 1 = q := Fin.ext h1
  have e2 : i 2 = r := Fin.ext h2
  show ((f (i 0) (i 1) (i 2) : ℝ) : EReal) = _
  rw [e0, e1, e2]

theorem coe_sum {n : ℕ} (f : Fin n → ℝ) : ∑ i, ((f i : ℝ) : EReal) = ((∑ i, f i : ℝ) : EReal) := by
  induction n with
  | zero => simp
  | succ n ih => rw [Fin.sum_univ_castSucc, Fin.sum_univ_castSucc, ih, EReal.coe_add]

theorem coe_max (a b : ℝ) : max (a : EReal) (b : EReal) = ((max a b : ℝ) : EReal) :=
  (EReal.coe_strictMono.monotone.map_max).symm

theorem max_zero (a : ℝ) : max (a : EReal) 0 = ((max a 0 : ℝ) : EReal) := coe_max a 0

theorem max_one (a : ℝ) : max (a : EReal) 1 = ((max a 1 : ℝ) : EReal) := coe_max a 1

theorem div_real (a b : ℝ) (h : b ≠ 0) : Ideal.div (a : EReal) (b : EReal) = ((a / b : ℝ) : EReal) := by
  rw [Ideal.div_coe h, ← EReal.coe_mul]
  congr 1
  field_simp

theorem ofBits_eps : Ideal.ofBits .f32 0x3727C5AC#32 = ((eps : ℝ) : EReal) := by
  unfold eps; simp [Ideal.ofBits, Ideal.ieee, -EReal.coe_mul]; norm_num

theorem ofBits_tenth : Ideal.ofBits .f32 0x3DCCCCCD#32 = ((tenth : ℝ) : EReal) := by
  unfold tenth; simp [Ideal.ofBits, Ideal.ieee, -EReal.coe_mul]; norm_num

theorem ofBits_512 : Ideal.ofBits .f32 0x44000000#32 = ((512 : ℝ) : EReal) := by
  simp [Ideal.ofBits, Ideal.ieee, -EReal.coe_mul]; norm_num

theorem ofBits_4096 : Ideal.ofBits .f32 0x45800000#32 = ((4096 : ℝ) : EReal) := by
  simp [Ideal.ofBits, Ideal.ieee, -EReal.coe_mul]; norm_num

theorem ofBits_inv4096 : Ideal.ofBits .f32 0x39800000#32 = ((1 / 4096 : ℝ) : EReal) := by
  simp [Ideal.ofBits, Ideal.ieee, -EReal.coe_mul]; norm_num

theorem div_512 (a : ℝ) : Ideal.div (a : EReal) ((512 : ℝ) : EReal) = ((a / 512 : ℝ) : EReal) := div_real _ _ (by norm_num)

theorem div_4096 (a : ℝ) : Ideal.div (a : EReal) ((4096 : ℝ) : EReal) = ((a / 4096 : ℝ) : EReal) := div_real _ _ (by norm_num)

theorem div_max_one (a b : ℝ) : Ideal.div (a : EReal) ((max b 1 : ℝ) : EReal) = ((a / max b 1 : ℝ) : EReal) :=
  div_real _ _ (by positivity)

/-- A mean square is not negative. -/
theorem mean_square_nonneg (z : Row) : 0 ≤ (∑ k, z k * z k) / 512 := by
  have : 0 ≤ ∑ k, z k * z k := Finset.sum_nonneg fun k _ => mul_self_nonneg _
  positivity

theorem rsqrt_inv (z : Row) : Ideal.rsqrt (((∑ k, z k * z k) / 512 + eps : ℝ) : EReal) = ((inv z : ℝ) : EReal) := by
  have h : 0 < (∑ k, z k * z k) / 512 + eps := add_pos_of_nonneg_of_pos (mean_square_nonneg z) eps_pos
  rw [Ideal.rsqrt_coe, if_neg h.le.not_gt, if_neg h.ne']
  rfl

theorem sqrt_real (z : Row) : Ideal.sqrt (((∑ k, z k * z k) / 512 + eps : ℝ) : EReal)
    = ((√((∑ k, z k * z k) / 512 + eps) : ℝ) : EReal) := by
  have h : 0 < (∑ k, z k * z k) / 512 + eps := add_pos_of_nonneg_of_pos (mean_square_nonneg z) eps_pos
  rw [Ideal.sqrt_coe, if_neg h.le.not_gt]

theorem div_sqrt (a : ℝ) (z : Row) : Ideal.div (a : EReal) ((√((∑ k, z k * z k) / 512 + eps) : ℝ) : EReal)
    = ((a / √((∑ k, z k * z k) / 512 + eps) : ℝ) : EReal) :=
  div_real _ _ (Real.sqrt_pos.mpr (add_pos_of_nonneg_of_pos (mean_square_nonneg z) eps_pos)).ne'

end Cert.Lift

end
-- ==== Proof.Spec.lean ====
/-
  The mathematics of both programs, one feature row at a time: what the kernel computes, what the reference computes,
  and that they are the same.

  The features are real numbers; the weights may be infinite. The kernel normalises with centred weights (the mean of
  a product's row is then zero), scales by a reciprocal square root, looks the coarse rows up by a one-hot product, and
  writes the gated blend as `e + g (f - e)`; the reference subtracts the mean, divides by a square root, gathers, and
  writes `g f + (1 - g) e`. A line with an infinite entry has an infinite mean square, so both normalisations make it
  zero, and the gate stays between zero and one: every row that is carried on is real again.
-/
module

public import proofs.«01_k».proof.Proof.Lift

@[expose] public section

noncomputable section

open Idealize.ShloMosaic

namespace Cert.Spec

open Cert.Lift
export Cert.Reals (Row Mat eps tenth eps_pos tenth_nonneg sum_slices sum_tiles)

/-- A row of extended reals. -/
abbrev Line := Fin 512 → EReal

/-- Square weights, by rows: `W k j` takes feature `k` to feature `j`. -/
abbrev Wts := Fin 512 → Line

/-! ## Real and infinite -/

/-- A real number among the extended reals. -/
def IsReal (a : EReal) : Prop := ((a.toReal : ℝ) : EReal) = a

theorem isReal_coe (r : ℝ) : IsReal (r : EReal) := rfl

theorem isReal_add (a b : EReal) : IsReal (a + b) ↔ IsReal a ∧ IsReal b := by
  induction a <;> induction b <;> simp [IsReal, ← EReal.coe_add]

theorem isReal_sub (a b : EReal) : IsReal (a - b) ↔ IsReal a ∧ IsReal b := by
  rw [sub_eq_add_neg, isReal_add]
  refine and_congr_right fun _ => ?_
  induction b <;> simp [IsReal]

theorem isReal_mul (r : ℝ) (a : EReal) : IsReal ((r : EReal) * a) ↔ r = 0 ∨ IsReal a := by
  rcases lt_trichotomy r 0 with h | h | h
  · induction a <;> simp [IsReal, h.ne, EReal.coe_mul_bot_of_neg h, EReal.coe_mul_top_of_neg h, ← EReal.coe_mul]
  · simp [IsReal, h]
  · induction a <;> simp [IsReal, h.ne', EReal.coe_mul_bot_of_pos h, EReal.coe_mul_top_of_pos h, ← EReal.coe_mul]

theorem isReal_sum {n : ℕ} (f : Fin n → EReal) : IsReal (∑ i, f i) ↔ ∀ i, IsReal (f i) := by
  induction n with
  | zero => simp [IsReal]
  | succ n ih => rw [Fin.sum_univ_castSucc, isReal_add, ih, Fin.forall_fin_succ']

/-- A square is not negative. -/
theorem square_nonneg (a : EReal) : 0 ≤ a * a := by
  induction a with
  | bot => simp
  | top => simp
  | coe r => rw [← EReal.coe_mul]; exact EReal.coe_nonneg.mpr (mul_self_nonneg r)

/-- A sum of squares, one of them infinite, is infinite. -/
theorem sum_square_top (z : Line) (j : Fin 512) (h : ¬ IsReal (z j)) : ∑ k, z k * z k = ⊤ := by
  have hj : z j * z j = ⊤ := by
    revert h
    generalize z j = a
    induction a <;> simp [IsReal]
  exact top_le_iff.mp (hj ▸ Finset.single_le_sum (f := fun k => z k * z k) (fun k _ => square_nonneg _) (Finset.mem_univ j))

/-! ## The operations on lines -/

/-- The row `x` times the weights `W`. -/
def lin (x : Row) (W : Wts) : Line := fun j => ∑ k, (x k : EReal) * W k j

/-- The mean of a line. -/
def mean (z : Line) : EReal := Ideal.div (∑ k, z k) ((512 : ℝ) : EReal)

/-- The weights whose rows have their means taken off. -/
def center (W : Wts) : Wts := fun k j => W k j - mean (W k)

/-- The kernel's scale of a line whose mean is zero. -/
def scale (z : Line) : EReal := Ideal.rsqrt (mean (fun k => z k * z k) + ((eps : ℝ) : EReal))

/-- The kernel's normalisation, negative entries cut to zero. -/
def unit (z : Line) : Row := fun j => (max (z j * scale z) 0).toReal

/-- A tenth of the kernel's normalisation, negative entries cut to zero. -/
def part (z : Line) : Row := fun j => (max (z j * (scale z * ((tenth : ℝ) : EReal))) 0).toReal

/-- The root of a line's variance and `eps`. -/
def root (z : Line) : EReal := Ideal.sqrt (mean (fun k => (z k - mean z) * (z k - mean z)) + ((eps : ℝ) : EReal))

/-- The reference's normalisation, negative entries cut to zero. -/
def norm (z : Line) : Row := fun j => (max (Ideal.div (z j - mean z) (root z)) 0).toReal

/-- The logistic function, from 0 at minus infinity to 1 at infinity. -/
def sigma (z : EReal) : ℝ := (Ideal.logistic z).toReal

theorem sigma_coe (z : EReal) : Ideal.logistic z = ((sigma z : ℝ) : EReal) := by
  unfold sigma
  induction z <;> simp

/-! ### On a line of reals -/

/-- A row of reals as a line. -/
def line (x : Row) : Line := fun j => ((x j : ℝ) : EReal)

theorem mean_line (x : Row) : mean (line x) = ((Reals.mean x : ℝ) : EReal) := by
  unfold mean line
  rw [coe_sum, div_512]
  rfl

theorem scale_line (x : Row) : scale (line x) = ((Reals.inv x : ℝ) : EReal) := by
  have e : (fun k => line x k * line x k) = line fun k => x k * x k := by
    funext k
    exact (EReal.coe_mul _ _).symm
  unfold scale
  rw [e, mean_line, ← EReal.coe_add]
  exact rsqrt_inv x

theorem unit_line (x : Row) (j : Fin 512) : max (line x j * scale (line x)) 0 = ((max (x j * Reals.inv x) 0 : ℝ) : EReal) := by
  rw [scale_line]
  unfold line
  rw [← EReal.coe_mul, max_zero]

theorem part_line (x : Row) (j : Fin 512) : max (line x j * (scale (line x) * ((tenth : ℝ) : EReal))) 0
    = ((tenth * max (x j * Reals.inv x) 0 : ℝ) : EReal) := by
  rw [scale_line]
  unfold line
  rw [← EReal.coe_mul, ← EReal.coe_mul, max_zero, mul_max_of_nonneg _ _ tenth_nonneg, mul_zero]
  congr 2
  ring

theorem norm_line (x : Row) (j : Fin 512) : max (Ideal.div (line x j - mean (line x)) (root (line x))) 0
    = ((max ((x j - Reals.mean x) * Reals.inv fun k => x k - Reals.mean x) 0 : ℝ) : EReal) := by
  have e : (fun k => (line x k - mean (line x)) * (line x k - mean (line x)))
      = line fun k => (x k - Reals.mean x) * (x k - Reals.mean x) := by
    funext k
    rw [mean_line]
    unfold line
    rw [← EReal.coe_sub, ← EReal.coe_mul]
  unfold root
  rw [e, mean_line, mean_line, ← EReal.coe_add]
  erw [sqrt_real (fun k => x k - Reals.mean x)]
  unfold line
  rw [← EReal.coe_sub, div_sqrt, max_zero, div_eq_mul_inv]
  rfl

/-! ### On a line with an infinite entry -/

theorem mean_square_top (z : Line) (j : Fin 512) (h : ¬ IsReal (z j)) :
    mean (fun k => z k * z k) + ((eps : ℝ) : EReal) = ⊤ := by
  unfold mean
  rw [sum_square_top z j h, Ideal.div_coe (by norm_num), EReal.top_mul_coe_of_pos (by norm_num), EReal.top_add_coe]

theorem scale_inf (z : Line) (j : Fin 512) (h : ¬ IsReal (z j)) : scale z = 0 := by
  unfold scale
  rw [mean_square_top z j h, Ideal.rsqrt_top]

theorem root_inf (z : Line) (j : Fin 512) (h : ¬ IsReal (z j)) : root z = ⊤ := by
  unfold root
  rw [mean_square_top (fun k => z k - mean z) j (fun hr => h ((isReal_sub _ _).mp hr).1), Ideal.sqrt_top]

theorem norm_inf (z : Line) (j : Fin 512) (h : ¬ IsReal (z j)) (i : Fin 512) :
    max (Ideal.div (z i - mean z) (root z)) 0 = 0 := by
  rw [root_inf z j h, Ideal.div, if_neg EReal.top_ne_zero, EReal.inv_top, mul_zero, max_self]

/-! ### On any line -/

/-- A line is a row of reals or has an infinite entry. -/
theorem line_cases (z : Line) : (∃ x : Row, z = line x) ∨ ∃ j, ¬ IsReal (z j) := by
  by_cases h : ∀ j, IsReal (z j)
  · exact Or.inl ⟨fun j => (z j).toReal, funext fun j => (h j).symm⟩
  · exact Or.inr (not_forall.mp h)

theorem unit_coe (z : Line) (j : Fin 512) : max (z j * scale z) 0 = ((unit z j : ℝ) : EReal) := by
  unfold unit
  rcases line_cases z with ⟨x, rfl⟩ | ⟨k, h⟩
  · rw [unit_line, EReal.toReal_coe]
  · rw [scale_inf z k h, mul_zero, max_self, EReal.toReal_zero, EReal.coe_zero]

theorem part_coe (z : Line) (j : Fin 512) : max (z j * (scale z * ((tenth : ℝ) : EReal))) 0 = ((part z j : ℝ) : EReal) := by
  unfold part
  rcases line_cases z with ⟨x, rfl⟩ | ⟨k, h⟩
  · rw [part_line, EReal.toReal_coe]
  · rw [scale_inf z k h, zero_mul, mul_zero, max_self, EReal.toReal_zero, EReal.coe_zero]

theorem norm_coe (z : Line) (j : Fin 512) : max (Ideal.div (z j - mean z) (root z)) 0 = ((norm z j : ℝ) : EReal) := by
  unfold norm
  rcases line_cases z with ⟨x, rfl⟩ | ⟨k, h⟩
  · rw [norm_line, EReal.toReal_coe]
  · rw [norm_inf z k h, EReal.toReal_zero, EReal.coe_zero]

/-- `w` is `z` with its mean taken off, as far as both are real; and they are real together. -/
def Centred (w z : Line) : Prop :=
  ((∃ j, ¬ IsReal (w j)) ∧ ∃ j, ¬ IsReal (z j)) ∨ ∃ x : Row, z = line x ∧ w = line fun j => x j - Reals.mean x

theorem Centred.unit {w z : Line} (h : Centred w z) : Spec.unit w = norm z := by
  funext j
  unfold Spec.unit norm
  rcases h with ⟨⟨i, hi⟩, k, hk⟩ | ⟨x, rfl, rfl⟩
  · rw [scale_inf w i hi, mul_zero, max_self, norm_inf z k hk]
  · rw [unit_line, norm_line]

theorem Centred.part {w z : Line} (h : Centred w z) (j : Fin 512) : Spec.part w j = tenth * norm z j := by
  unfold Spec.part norm
  rcases h with ⟨⟨i, hi⟩, k, hk⟩ | ⟨x, rfl, rfl⟩
  · rw [scale_inf w i hi, zero_mul, mul_zero, max_self, norm_inf z k hk, EReal.toReal_zero, mul_zero]
  · rw [part_line, norm_line, EReal.toReal_coe, EReal.toReal_coe]

/-! ## Centred weights -/

/-- A product with weights is real where the weights of the entries that are not zero are. -/
theorem isReal_lin (x : Row) (W : Wts) : (∀ j, IsReal (lin x W j)) ↔ ∀ k, x k = 0 ∨ ∀ j, IsReal (W k j) := by
  simp only [lin, isReal_sum, isReal_mul]
  rw [forall_comm]
  exact forall_congr' fun k => forall_or_left

/-- Taking the mean off leaves a line real if it is, and infinite if it is not. -/
theorem isReal_center (W : Wts) (k : Fin 512) : (∀ j, IsReal (center W k j)) ↔ ∀ j, IsReal (W k j) := by
  constructor
  · exact fun h j => ((isReal_sub _ _).mp (h j)).1
  · intro h j
    refine (isReal_sub _ _).mpr ⟨h j, ?_⟩
    have e : W k = line fun j => (W k j).toReal := funext fun j => (h j).symm
    rw [e, mean_line]
    exact isReal_coe _

theorem isReal_lin_center (x : Row) (W : Wts) : (∀ j, IsReal (lin x (center W) j)) ↔ ∀ j, IsReal (lin x W j) := by
  rw [isReal_lin, isReal_lin]
  simp only [isReal_center]

/-- A real product with weights is a product with real weights, and so is the product with the centred weights. -/
theorem lin_real (x : Row) (W : Wts) (h : ∀ j, IsReal (lin x W j)) :
    ∃ y : Row, lin x W = line y ∧ lin x (center W) = line fun j => y j - Reals.mean y := by
  have hk := (isReal_lin x W).mp h
  let R : Mat := fun k j => (W k j).toReal
  have term : ∀ k j, (x k : EReal) * W k j = ((x k * R k j : ℝ) : EReal) := fun k j => by
    rcases hk k with h0 | hr
    · rw [h0, EReal.coe_zero, zero_mul, zero_mul, EReal.coe_zero]
    · rw [EReal.coe_mul]
      exact congrArg _ (hr j).symm
  have termc : ∀ k j, (x k : EReal) * center W k j = ((x k * Reals.center R k j : ℝ) : EReal) := fun k j => by
    rcases hk k with h0 | hr
    · rw [h0, EReal.coe_zero, zero_mul, zero_mul, EReal.coe_zero]
    · have e : W k = line (R k) := funext fun j => (hr j).symm
      unfold center Reals.center
      rw [e, mean_line, EReal.coe_mul, EReal.coe_sub]
      rfl
  refine ⟨Reals.lin x R, ?_, ?_⟩
  · funext j
    unfold lin
    simp only [term]
    exact coe_sum _
  · funext j
    unfold lin
    simp only [termc]
    exact (coe_sum _).trans (congrArg _ (Reals.lin_center x R j))

theorem centred_lin (x : Row) (W : Wts) : Centred (lin x (center W)) (lin x W) := by
  by_cases h : ∀ j, IsReal (lin x W j)
  · exact Or.inr (lin_real x W h)
  · exact Or.inl ⟨not_forall.mp (fun hc => h ((isReal_lin_center x W).mp hc)), not_forall.mp h⟩

/-- The argument of the global update. -/
def pair (x g : Row) (A B : Wts) : Line := fun j => lin x A j + lin g B j

theorem isReal_pair (x g : Row) (A B : Wts) :
    (∀ j, IsReal (pair x g A B j)) ↔ (∀ j, IsReal (lin x A j)) ∧ ∀ j, IsReal (lin g B j) := by
  simp only [pair, isReal_add]
  exact forall_and

theorem centred_pair (x g : Row) (A B : Wts) : Centred (pair x g (center A) (center B)) (pair x g A B) := by
  by_cases h : ∀ j, IsReal (pair x g A B j)
  · obtain ⟨hx, hg⟩ := (isReal_pair x g A B).mp h
    obtain ⟨y, e, ec⟩ := lin_real x A hx
    obtain ⟨v, f, fc⟩ := lin_real g B hg
    refine Or.inr ⟨fun j => y j + v j, ?_, ?_⟩
    · funext j
      unfold pair
      rw [e, f]
      exact (EReal.coe_add _ _).symm
    · funext j
      unfold pair
      rw [ec, fc, Reals.mean_add]
      unfold line
      rw [← EReal.coe_add]
      exact congrArg _ (by ring)
  · refine Or.inl ⟨not_forall.mp (fun hc => h ?_), not_forall.mp h⟩
    rw [isReal_pair, isReal_lin_center, isReal_lin_center] at hc
    exact (isReal_pair x g A B).mpr hc

/-! ## The blends and the updates -/

/-- The kernel's blend of the row `f` with the row `e`; `u` is `e`'s share of the gate's argument. -/
def kBlend (e f : Row) (u : Line) (Wa : Wts) : Row := fun j => e j + sigma (lin f Wa j + u j) * (f j - e j)

/-- The reference's blend of the row `f` with the row `e`. -/
def rBlend (e f : Row) (Wa Wb : Wts) : Row := fun j =>
  sigma (pair f e Wa Wb j) * f j + (1 - sigma (pair f e Wa Wb j)) * e j

/-- The kernel's global update of the row `x` by the global row `g`, the weights being centred. -/
def kOut (x g : Row) (A B : Wts) : Row := fun j => x j + part (pair x g A B) j

/-- The reference's global update of the row `x` by the global row `g`. -/
def rOut (x g : Row) (A B : Wts) : Row := fun j => x j + tenth * norm (pair x g A B) j

theorem kBlend_eq (e f : Row) (Wa Wb : Wts) : kBlend e f (lin e Wb) Wa = rBlend e f Wa Wb := by
  funext j
  unfold kBlend rBlend pair
  ring

theorem kOut_eq (x g : Row) (A B : Wts) : kOut x g (center A) (center B) = rOut x g A B := by
  funext j
  unfold kOut rOut
  rw [(centred_pair x g A B).part]

/-! ## Lookups -/

/-- The one-hot row of a choice, zero when nothing is chosen. -/
def onehot (s : Option (Fin 512)) : Row := fun c => if s = some c then 1 else 0

/-- The chosen row of a table, zero when nothing is chosen. -/
def rowOf (s : Option (Fin 512)) (T : Mat) : Row :=
  match s with
  | some c => T c
  | none => fun _ => 0

theorem onehot_none (c : Fin 512) : onehot none c = 0 := if_neg (by simp)

theorem onehot_self (c : Fin 512) : onehot (some c) c = 1 := if_pos rfl

theorem onehot_other (c b : Fin 512) (h : b ≠ c) : onehot (some c) b = 0 := if_neg fun e => h (Option.some.inj e).symm

/-- A one-hot row times a table is the chosen row. -/
theorem pick (s : Option (Fin 512)) (T : Mat) : Reals.lin (onehot s) T = rowOf s T := by
  funext j
  cases s with
  | some c =>
    unfold Reals.lin
    rw [Finset.sum_eq_single c (fun b _ h => by rw [onehot_other c b h, zero_mul]) (by simp), onehot_self, one_mul]
    rfl
  | none =>
    unfold Reals.lin
    exact Finset.sum_eq_zero fun c _ => by rw [onehot_none, zero_mul]

theorem lin_zero (W : Wts) : lin (fun _ => 0) W = line fun _ => 0 := by
  funext j
  unfold lin line
  exact Finset.sum_eq_zero fun k _ => by rw [EReal.coe_zero, zero_mul]

theorem norm_zero : norm (line fun _ => 0) = fun _ => 0 := by
  funext j
  unfold norm
  rw [norm_line, EReal.toReal_coe]
  simp [Reals.mean]

/-- The table of normalised coarse rows. -/
def table (cb : Mat) (W : Wts) : Mat := fun c => unit (lin (cb c) (center W))

/-- A lookup in the table of normalised rows is the normalisation of the row looked up: a row of zeros gives zeros. -/
theorem pick_table (s : Option (Fin 512)) (cb : Mat) (W : Wts) :
    Reals.lin (onehot s) (table cb W) = norm (lin (rowOf s cb) W) := by
  rw [pick]
  cases s with
  | some c => exact (centred_lin (cb c) W).unit
  | none =>
    unfold rowOf
    rw [lin_zero, norm_zero]

/-- A lookup in the products of a table's rows is the product of the row looked up. -/
theorem lin_products (s : Option (Fin 512)) (T : Mat) (W : Wts) :
    lin (onehot s) (fun c => lin (T c) W) = lin (Reals.lin (onehot s) T) W := by
  rw [pick]
  cases s with
  | some c =>
    funext j
    refine (Finset.sum_eq_single c (fun b _ h => by rw [onehot_other c b h, EReal.coe_zero, zero_mul]) (by simp)).trans ?_
    rw [onehot_self, EReal.coe_one, one_mul]
    rfl
  | none =>
    unfold rowOf
    rw [lin_zero]
    funext j
    exact Finset.sum_eq_zero fun c _ => by rw [onehot_none, EReal.coe_zero, zero_mul]

/-! ## The two results, row by row -/

/-- The kernel's row of the first result: `f` and `g` the atom's rows, `p` its one-hot row. -/
def kFine (p f g : Row) (cb : Mat) (Wc Wa Wb A B : Wts) : Row :=
  kOut (kBlend (Reals.lin p (table cb Wc)) f (lin p fun c => lin (table cb Wc c) Wb) Wa) g (center A) (center B)

/-- The reference's row of the first result: `s` the atom's coarse node. -/
def rFine (s : Option (Fin 512)) (f g : Row) (cb : Mat) (Wc Wa Wb A B : Wts) : Row :=
  rOut (rBlend (norm (lin (rowOf s cb) Wc)) f Wa Wb) g A B

theorem kFine_eq (s : Option (Fin 512)) (f g : Row) (cb : Mat) (Wc Wa Wb A B : Wts) :
    kFine (onehot s) f g cb Wc Wa Wb A B = rFine s f g cb Wc Wa Wb A B := by
  unfold kFine rFine
  rw [lin_products, pick_table, kBlend_eq, kOut_eq]

/-- The mean of the rows gathered at one coarse node: their sum over their number, or over 1 when there are none. -/
def pool (S : Row) (n : ℝ) : Row := fun k => S k / max n 1

/-- The kernel's row of the second result: `S`, `n` the node's sum and count, `x` its row, `g` the mean global row. -/
def kCoarse (S : Row) (n : ℝ) (x g : Row) (Wf Wa Wb A B : Wts) : Row :=
  kOut (kBlend (unit (lin (pool S n) (center Wf))) x (lin (unit (lin (pool S n) (center Wf))) Wb) Wa) g (center A) (center B)

/-- The reference's row of the second result. -/
def rCoarse (S : Row) (n : ℝ) (x g : Row) (Wf Wa Wb A B : Wts) : Row :=
  rOut (rBlend (norm (lin (pool S n) Wf)) x Wa Wb) g A B

theorem kCoarse_eq (S : Row) (n : ℝ) (x g : Row) (Wf Wa Wb A B : Wts) :
    kCoarse S n x g Wf Wa Wb A B = rCoarse S n x g Wf Wa Wb A B := by
  unfold kCoarse rCoarse
  rw [kBlend_eq, (centred_lin (pool S n) Wf).unit, kOut_eq]

/-! ## The inputs -/

/-- The inputs that matter: the atoms' rows, the coarse nodes' rows, the atoms' coarse node numbers, the global rows,
    and the four weights (the last two are two matrices, one under the other). -/
structure Data where
  fine : Fin 8 → Fin 4096 → Row
  coarse : Fin 8 → Fin 512 → Row
  ids : Fin 8 → Fin 4096 → BitVec 32
  glob : Fin 8 → Fin 4096 → Row
  wf : Wts
  wc : Wts
  wg : Fin 1024 → Line
  wi : Fin 1024 → Line

/-- The first of the two matrices. -/
def upper (W : Fin 1024 → Line) : Wts := fun k => W ⟨k, by omega⟩

/-- The second of the two matrices. -/
def lower (W : Fin 1024 → Line) : Wts := fun k => W ⟨512 + k, by omega⟩

/-- The coarse node a number chooses: none when it is not one of the 512. -/
def sel (b : BitVec 32) : Option (Fin 512) := if h : b.toNat < 512 then some ⟨b.toNat, h⟩ else none

/-! ## The results -/

/-- The first result. -/
def fineResult (D : Data) : Fin 8 → Fin 4096 → Row := fun b n =>
  rFine (sel (D.ids b n)) (D.fine b n) (D.glob b n) (D.coarse b) D.wc (upper D.wg) (lower D.wg) (upper D.wi) (lower D.wi)

/-- The second result: a coarse node gathers the atoms that chose it, and the mean of all the batch's global rows. -/
def coarseResult (D : Data) : Fin 8 → Fin 512 → Row := fun b k =>
  rCoarse (fun j => ∑ n, onehot (sel (D.ids b n)) k * D.fine b n j) (∑ n, onehot (sel (D.ids b n)) k) (D.coarse b k)
    (fun j => (∑ n, D.glob b n j) / 4096) D.wf (upper D.wg) (lower D.wg) (upper D.wi) (lower D.wi)

end Cert.Spec

end
-- ==== Proof.Payloads.lean ====
/-
  What each stage of the kernel's body computes on real rows and any weights.

  The body treats a tile of 2048 atoms in four slices of 512. All four slices run the same stages: a one-hot matrix of
  the atoms' coarse nodes, a lookup of the coarse rows by that matrix, the gated blend, the global update. Each stage is
  read once here, and the four slices are then the same statement at the offsets 0, 512, 1024 and 1536.
-/
module

public import proofs.«01_k».proof.Proof.Spec
public import proofs.«01_k».proof.Proof.Gen.KernelIdeal.Skeleton

@[expose] public section

set_option maxRecDepth 16384

noncomputable section

open Idealize.ShloMosaic Idealize.ShloMosaic.TcCoe Idealize.SL.Sem

namespace Cert.KernelIdeal.Hand

open Cert.KernelIdeal Cert.KernelIdeal.Gen Cert.Spec Cert.Lift

/-! ## Single stages -/

/-- A table of real rows and weights, side by side. -/
def both (X : Mat) (Y : Wts) : Fin 512 → Fin 1024 → EReal := fun c j =>
  if h : j.val < 512 then ((X c ⟨j, h⟩ : ℝ) : EReal) else Y c ⟨j - 512, by omega⟩

theorem both_left (X : Mat) (Y : Wts) (c j : Fin 512) (h : j.val < 1024) : both X Y c ⟨j, h⟩ = ((X c j : ℝ) : EReal) := dif_pos j.isLt

theorem both_right (X : Mat) (Y : Wts) (c j : Fin 512) (h : 512 + j.val < 1024) : both X Y c ⟨512 + j, h⟩ = Y c j := by
  unfold both
  rw [dif_neg (by simp)]
  congr 1
  exact Fin.ext (Nat.add_sub_cancel_left _ _)

/-- The table of normalised coarse rows. -/
theorem pay9 (cb : Fin 1 → Mat) (w : Wts) :
    k0_pay9 (F := Ideal) (up3 cb) (raw2 w) = up2 (fun c => Spec.unit (lin (cb 0 c) w)) := by
  funext i
  idx_vars i
  pointwise [k0_pay9, k0_pay7, raw2_at, up2_at, up3_at]
  simp only [zero_add, ofBits_512, ofBits_eps]
  exact unit_coe (lin (cb 0 i0) w) i1

/-- The table's left half as it is stored. -/
theorem pay10 (cb : Fin 1 → Mat) (w : Wts) :
    k0_pay10 (F := Ideal) (up3 cb) (raw2 w) = up2 (fun c => Spec.unit (lin (cb 0 c) w)) := by
  refine Eq.trans ?_ (pay9 cb w)
  funext i
  idx_vars i
  pointwise [k0_pay10]

/-- The table's right half: the gate's product of each normalised row. -/
theorem pay11 (cb : Fin 1 → Mat) (w wb : Wts) :
    k0_pay11 (F := Ideal) (up3 cb) (raw2 w) (raw2 wb) = raw2 (fun c => lin (Spec.unit (lin (cb 0 c) w)) wb) := by
  funext i
  idx_vars i
  pointwise [k0_pay11, pay9 cb w, raw2_at, up2_at]
  rfl

/-- The lookup product: the columns of `p` choose rows of the two tables. -/
theorem lookup (p : Fin 512 → Fin 512 → ℝ) (X : Mat) (Y : Wts) :
    matmul (F := Ideal) (φ₁ := .bf16) (φ₂ := .bf16) dot_S512x512_S512x1024_S512x1024_0_0_1_1_n_n none (up2 p) (raw2 (both X Y))
      (constant S512x1024 .f32 0x00000000#32)
      = raw2 (both (fun r => Reals.lin (fun c => p c r) X) fun r => lin (fun c => p c r) Y) := by
  funext i
  idx_vars i
  pointwise [up2_at, raw2_at]
  unfold both
  by_cases h : (i1 : ℕ) < 512
  · simp only [dif_pos h, ← EReal.coe_mul, coe_sum]
    rfl
  · simp only [dif_neg h]
    rfl

/-- The blend and the global update of one slice, from the rows looked up. -/
theorem pay26 (f g e : Mat) (u wa a b : Wts) :
    k0_pay26 (F := Ideal) (up2 f) (up2 g) (raw2 (both e u)) (raw2 wa) (raw2 a) (raw2 b)
      = up3 (fun (_ : Fin 1) r => kOut (kBlend (e r) (f r) (u r) wa) (g r) a b) := by
  funext i
  idx_vars i
  pointwise [k0_pay26, k0_pay25, up2_at, raw2_at, up3_at]
  simp only [both_left, both_right, sigma_coe, ← EReal.coe_sub, ← EReal.coe_mul, ← EReal.coe_add, ofBits_512, ofBits_eps, ofBits_tenth]
  refine Eq.trans (congrArg _ (part_coe (pair (kBlend (e i1) (f i1) (u i1) wa) (g i1) a b) i2)) ?_
  exact (EReal.coe_add _ _).symm

/-- The feature row with ones after it, so that a product also counts. -/
def ext (f : Row) : Fin 640 → ℝ := fun j => if h : j.val < 512 then f ⟨j, h⟩ else 1

/-- The sums by coarse node of one slice, and their counts. -/
theorem pay19 (p : Fin 512 → Fin 512 → ℝ) (f : Mat) :
    k0_pay19 (F := Ideal) (up2 p) (up2 f) = up2 (fun c j => ∑ r, p c r * ext (f r) j) := by
  funext i
  idx_vars i
  by_cases h : (i1 : ℕ) < 512
  · pointwise [k0_pay19, up2_at]
    simp only [dif_pos h, ext, ← EReal.coe_mul, coe_sum, zero_add]
  · pointwise [k0_pay19, up2_at]
    simp only [dif_neg h, ext, mul_one, coe_sum, zero_add]

/-- The column sums of one slice. -/
theorem pay20 (g : Mat) : k0_pay20 (F := Ideal) (up2 g) = up2 (fun (_ : Fin 1) j => ∑ r, g r j) := by
  funext i
  idx_vars i
  pointwise [k0_pay20, up2_at]
  simp only [coe_sum]

/-- The mean global row. -/
theorem pay3 (g : Fin 1 → Row) : k0_pay3 (F := Ideal) (up2 g) = up2 (fun z j => g z j * (1 / 4096)) := by
  funext i
  idx_vars i
  pointwise [k0_pay3, up2_at]
  simp only [ofBits_inv4096, ← EReal.coe_mul]

/-- The coarse block without its unit axis. -/
theorem pay7 (cb : Fin 1 → Mat) : k0_pay7 (F := Ideal) (up3 cb) = up2 (cb 0) := by
  funext i
  idx_vars i
  pointwise [k0_pay7, up2_at, up3_at]

/-- The blend of the coarse rows with the normalised means of their atoms. -/
theorem pay2 (x : Mat) (n : Fin 512 → Fin 1 → ℝ) (S : Mat) (wf wa wb : Wts) :
    k0_pay2 (F := Ideal) (up2 x) (up2 n) (up2 S) (raw2 wf) (raw2 wa) (raw2 wb)
      = up2 (fun c => kBlend (Spec.unit (lin (pool (S c) (n c 0)) wf)) (x c) (lin (Spec.unit (lin (pool (S c) (n c 0)) wf)) wb) wa) := by
  have fold : ∀ c j, max ((∑ k, ((S c k / max (n c 0) 1 : ℝ) : EReal) * wf k j)
      * Ideal.rsqrt (Ideal.div (∑ l, (∑ k, ((S c k / max (n c 0) 1 : ℝ) : EReal) * wf k l) * ∑ k, ((S c k / max (n c 0) 1 : ℝ) : EReal) * wf k l)
          ((512 : ℝ) : EReal) + ((eps : ℝ) : EReal))) 0
      = ((Spec.unit (lin (pool (S c) (n c 0)) wf) j : ℝ) : EReal) := fun c j => unit_coe (lin (pool (S c) (n c 0)) wf) j
  funext i
  idx_vars i
  pointwise [k0_pay2, up2_at, raw2_at]
  simp only [max_one, div_max_one, zero_add, ofBits_512, ofBits_eps, fold, sigma_coe, ← EReal.coe_sub, ← EReal.coe_mul, ← EReal.coe_add]
  rfl

/-- The global update of the coarse rows. -/
theorem pay1 (x : Mat) (g : Fin 1 → Row) (a b : Wts) :
    k0_pay1 (F := Ideal) (up2 x) (up2 g) (up2 x) (raw2 a) (raw2 b) = up3 (fun (_ : Fin 1) c => kOut (x c) (g 0) a b) := by
  funext i
  idx_vars i
  pointwise [k0_pay1, up2_at, raw2_at, up3_at]
  simp only [zero_add, ofBits_512, ofBits_eps, ofBits_tenth]
  refine Eq.trans (congrArg _ (part_coe (pair (x i1) (g 0) a b) i2)) ?_
  exact (EReal.coe_add _ _).symm

end Cert.KernelIdeal.Hand

end
-- ==== Proof.Slices.lean ====
/-
  The four slices of a tile, as rows of the tile.

  Each slice takes its rows of the atoms, of the global rows and of the coarse node numbers at its own offset and then
  runs the stages of `Payloads`. Stored under each other, the four slices are one function of the tile's rows; added
  up, their sums are sums over the whole tile.
-/
module

public import proofs.«01_k».proof.Proof.Payloads

@[expose] public section

set_option maxRecDepth 16384

noncomputable section

open Idealize.ShloMosaic Idealize.ShloMosaic.TcCoe Idealize.SL.Sem

namespace Cert.KernelIdeal.Hand

open Cert.KernelIdeal Cert.KernelIdeal.Gen Cert.Spec Cert.Lift

theorem sel_eq (b : BitVec 32) (c : Fin 512) : sel b = some c ↔ BitVec.ofNat 32 c = b := by
  have hc := c.isLt
  unfold sel
  constructor
  · intro h
    split at h
    · have := congrArg Fin.val (Option.some.inj h)
      refine BitVec.eq_of_toNat_eq ?_
      simp only [BitVec.toNat_ofNat] at *
      omega
    · exact absurd h (by simp)
  · rintro rfl
    have : (BitVec.ofNat 32 c.val).toNat = c.val := by simp only [BitVec.toNat_ofNat]; omega
    rw [dif_pos (by omega)]
    exact congrArg some (Fin.ext this)

/-- The comparison of a coarse node's index with an atom's number, as a real number. -/
theorem hot_scalar (b : BitVec 32) (c : Fin 512) :
    (FloatOps.sitofp .f32 (BitVec.setWidth 32 (IntOp.cmpi CmpIPredicate.eq (BitVec.ofNat 32 c) b)) : Ideal .f32)
      = ((onehot (sel b) c : ℝ) : EReal) := by
  change (((BitVec.setWidth 32 (IntOp.cmpi CmpIPredicate.eq (BitVec.ofNat 32 c) b)).toInt : ℝ) : EReal) = _
  unfold onehot
  by_cases h : BitVec.ofNat 32 c = b
  · rw [if_pos ((sel_eq b c).mpr h)]
    simp [IntOp.cmpi, h]
  · rw [if_neg (fun hs => h ((sel_eq b c).mp hs))]
    have hb : (BitVec.ofNat 32 c.val == b) = false := beq_eq_false_iff_ne.mpr h
    simp [IntOp.cmpi, hb]

/-- The tile's rows of the first result: `f`, `g` the atoms' and the global rows, `s` the atoms' coarse nodes, `X`, `Y`
    the table's two halves. -/
def fineRow (f g : Fin 2048 → Row) (s : Fin 2048 → Option (Fin 512)) (X : Mat) (Y wa a b : Wts) : Fin 2048 → Row := fun r =>
  kOut (kBlend (Reals.lin (onehot (s r)) X) (f r) (lin (onehot (s r)) Y) wa) (g r) a b

/-- One slice, from its one-hot matrix. -/
theorem slice (f g : Mat) (p : Fin 512 → Fin 512 → ℝ) (X : Mat) (Y wa a b : Wts) :
    k0_pay26 (F := Ideal) (up2 f) (up2 g)
        (matmul (F := Ideal) (φ₁ := .bf16) (φ₂ := .bf16) dot_S512x512_S512x1024_S512x1024_0_0_1_1_n_n none (up2 p) (raw2 (both X Y))
          (constant S512x1024 .f32 0x00000000#32)) (raw2 wa) (raw2 a) (raw2 b)
      = up3 (fun (_ : Fin 1) r => kOut (kBlend (Reals.lin (fun c => p c r) X) (f r) (lin (fun c => p c r) Y) wa) (g r) a b) := by
  rw [lookup, pay26]

theorem pay5 (f : Fin 1 → Fin 2048 → Row) : k0_pay5 (F := Ideal) (up3 f) = up2 (f 0) := by
  funext i
  idx_vars i
  pointwise [k0_pay5, up2_at, up3_at]

theorem pay6 (f : Fin 1 → Fin 2048 → Row) : k0_pay6 (F := Ideal) (up3 f) = up2 (f 0) := pay5 f

/-! ## The slices' rows and one-hot matrices -/

theorem pay12 (f : Fin 1 → Fin 2048 → Row) : k0_pay12 (F := Ideal) (up3 f) = up2 (fun r => f 0 ⟨r, by omega⟩) := by
  funext i
  idx_vars i
  pointwise [k0_pay12, k0_pay5, up2_at, up3_at]

theorem pay13 (f : Fin 1 → Fin 2048 → Row) : k0_pay13 (F := Ideal) (up3 f) = up2 (fun r => f 0 ⟨r, by omega⟩) := by
  funext i
  idx_vars i
  pointwise [k0_pay13, k0_pay6, up2_at, up3_at]

theorem pay14 (ids : Vec Ideal S1x1x2048 .i32) :
    k0_pay14 (F := Ideal) ids = up2 (fun c r => onehot (sel (ids (ix3 0 0 ⟨r, by omega⟩))) c) := by
  funext i
  idx_vars i
  pointwise [k0_pay14, k0_pay8, up2_at]
  exact hot_scalar _ _

theorem pay21 (f : Fin 2048 → Row) : k0_pay21 (F := Ideal) (up2 f) = up2 (fun r => f ⟨512 + r, by omega⟩) := by
  funext i
  idx_vars i
  pointwise [k0_pay21, up2_at]

theorem pay22 (f : Fin 2048 → Row) : k0_pay22 (F := Ideal) (up2 f) = up2 (fun r => f ⟨512 + r, by omega⟩) := pay21 f

theorem pay23 (ids : Vec Ideal S1x1x2048 .i32) :
    k0_pay23 (F := Ideal) (k0_pay8 (F := Ideal) ids) = up2 (fun c r => onehot (sel (ids (ix3 0 0 ⟨512 + r, by omega⟩))) c) := by
  funext i
  idx_vars i
  pointwise [k0_pay23, k0_pay8, up2_at]
  exact hot_scalar _ _

theorem pay30 (f : Fin 2048 → Row) : k0_pay30 (F := Ideal) (up2 f) = up2 (fun r => f ⟨1024 + r, by omega⟩) := by
  funext i
  idx_vars i
  pointwise [k0_pay30, up2_at]

theorem pay31 (f : Fin 2048 → Row) : k0_pay31 (F := Ideal) (up2 f) = up2 (fun r => f ⟨1024 + r, by omega⟩) := pay30 f

theorem pay32 (ids : Vec Ideal S1x1x2048 .i32) :
    k0_pay32 (F := Ideal) (k0_pay8 (F := Ideal) ids) = up2 (fun c r => onehot (sel (ids (ix3 0 0 ⟨1024 + r, by omega⟩))) c) := by
  funext i
  idx_vars i
  pointwise [k0_pay32, k0_pay8, up2_at]
  exact hot_scalar _ _

theorem pay41 (f : Fin 2048 → Row) : k0_pay41 (F := Ideal) (up2 f) = up2 (fun r => f ⟨1536 + r, by omega⟩) := by
  funext i
  idx_vars i
  pointwise [k0_pay41, up2_at]

theorem pay42 (f : Fin 2048 → Row) : k0_pay42 (F := Ideal) (up2 f) = up2 (fun r => f ⟨1536 + r, by omega⟩) := pay41 f

theorem pay43 (ids : Vec Ideal S1x1x2048 .i32) :
    k0_pay43 (F := Ideal) (k0_pay8 (F := Ideal) ids) = up2 (fun c r => onehot (sel (ids (ix3 0 0 ⟨1536 + r, by omega⟩))) c) := by
  funext i
  idx_vars i
  pointwise [k0_pay43, k0_pay8, up2_at]
  exact hot_scalar _ _

/-! ## The four stores -/

theorem store0 (f g : Fin 1 → Fin 2048 → Row) (ids : Vec Ideal S1x1x2048 .i32) (X : Mat) (Y wa a b : Wts) :
    k0_pay18 (F := Ideal) (k0_pay13 (up3 g)) (k0_pay16 (up3 f) ids (raw2 (both X Y)) (raw2 wa)) (k0_pay17 (up3 f) ids (raw2 (both X Y)) (raw2 wa)) (raw2 a) (raw2 b)
      = up3 (fun (_ : Fin 1) r => fineRow (f 0) (g 0) (fun r => sel (ids (ix3 0 0 r))) X Y wa a b ⟨r, by omega⟩) := by
  have e : k0_pay18 (F := Ideal) (k0_pay13 (up3 g)) (k0_pay16 (up3 f) ids (raw2 (both X Y)) (raw2 wa)) (k0_pay17 (up3 f) ids (raw2 (both X Y)) (raw2 wa)) (raw2 a) (raw2 b)
      = k0_pay26 (F := Ideal) (k0_pay12 (up3 f)) (k0_pay13 (up3 g))
          (matmul (F := Ideal) (φ₁ := .bf16) (φ₂ := .bf16) dot_S512x512_S512x1024_S512x1024_0_0_1_1_n_n none (k0_pay14 (F := Ideal) ids) (raw2 (both X Y))
            (constant S512x1024 .f32 0x00000000#32)) (raw2 wa) (raw2 a) (raw2 b) := rfl
  rw [e, pay12, pay13, pay14, slice]
  rfl

theorem store1 (f g : Fin 1 → Fin 2048 → Row) (ids : Vec Ideal S1x1x2048 .i32) (X : Mat) (Y wa a b : Wts) :
    k0_pay26 (F := Ideal) (k0_pay21 (k0_pay5 (up3 f))) (k0_pay22 (k0_pay6 (up3 g))) (k0_pay24 (k0_pay8 (F := Ideal) ids) (raw2 (both X Y))) (raw2 wa) (raw2 a) (raw2 b)
      = up3 (fun (_ : Fin 1) r => fineRow (f 0) (g 0) (fun r => sel (ids (ix3 0 0 r))) X Y wa a b ⟨512 + r, by omega⟩) := by
  have e : k0_pay26 (F := Ideal) (k0_pay21 (k0_pay5 (up3 f))) (k0_pay22 (k0_pay6 (up3 g))) (k0_pay24 (k0_pay8 (F := Ideal) ids) (raw2 (both X Y))) (raw2 wa) (raw2 a) (raw2 b)
      = k0_pay26 (F := Ideal) (k0_pay21 (k0_pay5 (up3 f))) (k0_pay22 (k0_pay6 (up3 g)))
          (matmul (F := Ideal) (φ₁ := .bf16) (φ₂ := .bf16) dot_S512x512_S512x1024_S512x1024_0_0_1_1_n_n none (k0_pay23 (F := Ideal) (k0_pay8 (F := Ideal) ids)) (raw2 (both X Y))
            (constant S512x1024 .f32 0x00000000#32)) (raw2 wa) (raw2 a) (raw2 b) := rfl
  rw [e, pay5, pay6, pay21, pay22, pay23, slice]
  rfl

theorem store2 (f g : Fin 1 → Fin 2048 → Row) (ids : Vec Ideal S1x1x2048 .i32) (X : Mat) (Y wa a b : Wts) :
    k0_pay38 (F := Ideal) (k0_pay34 (k0_pay5 (up3 f)) (k0_pay8 (F := Ideal) ids) (raw2 (both X Y)) (raw2 wa))
        (k0_pay35 (k0_pay5 (up3 f)) (k0_pay6 (up3 g)) (k0_pay8 (F := Ideal) ids) (raw2 (both X Y)) (raw2 wa) (raw2 a) (raw2 b))
        (k0_pay36 (k0_pay5 (up3 f)) (k0_pay6 (up3 g)) (k0_pay8 (F := Ideal) ids) (raw2 (both X Y)) (raw2 wa) (raw2 a) (raw2 b)) k0_pay37
      = up3 (fun (_ : Fin 1) r => fineRow (f 0) (g 0) (fun r => sel (ids (ix3 0 0 r))) X Y wa a b ⟨1024 + r, by omega⟩) := by
  have e : k0_pay38 (F := Ideal) (k0_pay34 (k0_pay5 (up3 f)) (k0_pay8 (F := Ideal) ids) (raw2 (both X Y)) (raw2 wa))
        (k0_pay35 (k0_pay5 (up3 f)) (k0_pay6 (up3 g)) (k0_pay8 (F := Ideal) ids) (raw2 (both X Y)) (raw2 wa) (raw2 a) (raw2 b))
        (k0_pay36 (k0_pay5 (up3 f)) (k0_pay6 (up3 g)) (k0_pay8 (F := Ideal) ids) (raw2 (both X Y)) (raw2 wa) (raw2 a) (raw2 b)) k0_pay37
      = k0_pay26 (F := Ideal) (k0_pay30 (k0_pay5 (up3 f))) (k0_pay31 (k0_pay6 (up3 g)))
          (matmul (F := Ideal) (φ₁ := .bf16) (φ₂ := .bf16) dot_S512x512_S512x1024_S512x1024_0_0_1_1_n_n none (k0_pay32 (F := Ideal) (k0_pay8 (F := Ideal) ids)) (raw2 (both X Y))
            (constant S512x1024 .f32 0x00000000#32)) (raw2 wa) (raw2 a) (raw2 b) := rfl
  rw [e, pay5, pay6, pay30, pay31, pay32, slice]
  rfl

theorem store3 (f g : Fin 1 → Fin 2048 → Row) (ids : Vec Ideal S1x1x2048 .i32) (X : Mat) (Y wa a b : Wts) :
    k0_pay48 (F := Ideal) (k0_pay45 (k0_pay5 (up3 f)) (k0_pay8 (F := Ideal) ids) (raw2 (both X Y)) (raw2 wa))
        (k0_pay46 (k0_pay5 (up3 f)) (k0_pay8 (F := Ideal) ids) (raw2 (both X Y)) (raw2 wa) (raw2 a)) (k0_pay47 (k0_pay6 (up3 g))) (raw2 b)
      = up3 (fun (_ : Fin 1) r => fineRow (f 0) (g 0) (fun r => sel (ids (ix3 0 0 r))) X Y wa a b ⟨1536 + r, by omega⟩) := by
  have e : k0_pay48 (F := Ideal) (k0_pay45 (k0_pay5 (up3 f)) (k0_pay8 (F := Ideal) ids) (raw2 (both X Y)) (raw2 wa))
        (k0_pay46 (k0_pay5 (up3 f)) (k0_pay8 (F := Ideal) ids) (raw2 (both X Y)) (raw2 wa) (raw2 a)) (k0_pay47 (k0_pay6 (up3 g))) (raw2 b)
      = k0_pay26 (F := Ideal) (k0_pay41 (k0_pay5 (up3 f))) (k0_pay42 (k0_pay6 (up3 g)))
          (matmul (F := Ideal) (φ₁ := .bf16) (φ₂ := .bf16) dot_S512x512_S512x1024_S512x1024_0_0_1_1_n_n none (k0_pay43 (F := Ideal) (k0_pay8 (F := Ideal) ids)) (raw2 (both X Y))
            (constant S512x1024 .f32 0x00000000#32)) (raw2 wa) (raw2 a) (raw2 b) := rfl
  rw [e, pay5, pay6, pay41, pay42, pay43, slice]
  rfl

/-! ## The sums over the tile -/

/-- The tile's sums by coarse node in the first 512 columns, and the tile's counts in the others. -/
def tileSums (f : Fin 2048 → Row) (s : Fin 2048 → Option (Fin 512)) : Fin 512 → Fin 640 → ℝ := fun c j =>
  ∑ r, onehot (s r) c * ext (f r) j

/-- The tile's column sums. -/
def tileGlob (g : Fin 2048 → Row) : Row := fun j => ∑ r, g r j

theorem pay28 (p f : FVec Ideal S512x512 .f32) :
    k0_pay28 (F := Ideal) p (k0_pay27 f) (constant S512x640 .f32 0x00000000#32) = k0_pay19 (F := Ideal) p f := rfl

theorem pay39 (p f : FVec Ideal S512x512 .f32) : k0_pay39 (F := Ideal) p f = k0_pay19 (F := Ideal) p f := rfl

theorem pay49_parts (v62 v116 v170 : FVec Ideal S512x640 .f32) (p f : FVec Ideal S512x512 .f32) :
    k0_pay49 (F := Ideal) v62 v116 v170 p f
      = addf (F := Ideal) (addf (F := Ideal) (addf (F := Ideal) v62 v116) v170) (k0_pay19 (F := Ideal) p f) := rfl

theorem pay15 (f : FVec Ideal S1x2048x512 .f32) : k0_pay15 (F := Ideal) f = k0_pay12 (F := Ideal) f := rfl

theorem pay33 (f : FVec Ideal S2048x512 .f32) : k0_pay33 (F := Ideal) f = k0_pay30 (F := Ideal) f := rfl

theorem pay44 (f : FVec Ideal S2048x512 .f32) : k0_pay44 (F := Ideal) f = k0_pay41 (F := Ideal) f := rfl

theorem pay49 (f : Fin 1 → Fin 2048 → Row) (ids : Vec Ideal S1x1x2048 .i32) :
    k0_pay49 (F := Ideal) (k0_pay19 (k0_pay14 (F := Ideal) ids) (k0_pay15 (up3 f)))
        (k0_pay28 (k0_pay23 (F := Ideal) (k0_pay8 (F := Ideal) ids)) (k0_pay27 (k0_pay21 (k0_pay5 (up3 f)))) (constant S512x640 .f32 0x00000000#32))
        (k0_pay39 (k0_pay32 (F := Ideal) (k0_pay8 (F := Ideal) ids)) (k0_pay33 (k0_pay5 (up3 f))))
        (k0_pay43 (F := Ideal) (k0_pay8 (F := Ideal) ids)) (k0_pay44 (k0_pay5 (up3 f)))
      = up2 (tileSums (f 0) fun r => sel (ids (ix3 0 0 r))) := by
  rw [pay49_parts]
  erw [pay28, pay39, pay15, pay33, pay44]
  rw [pay14, pay23, pay32, pay43, pay5, pay12, pay21, pay30, pay41]
  simp only [pay19]
  funext i
  idx_vars i
  pointwise [up2_at]
  simp only [← EReal.coe_add]
  exact congrArg _ (sum_slices fun r => onehot (sel (ids (ix3 0 0 r))) i0 * ext (f 0 r) i1).symm

theorem pay50 (g : Fin 1 → Fin 2048 → Row) :
    k0_pay50 (F := Ideal) (k0_pay20 (k0_pay13 (up3 g))) (k0_pay29 (k0_pay22 (k0_pay6 (up3 g))))
        (k0_pay40 (k0_pay31 (k0_pay6 (up3 g)))) (k0_pay42 (k0_pay6 (up3 g)))
      = up2 (fun (_ : Fin 1) => tileGlob (g 0)) := by
  have e : k0_pay50 (F := Ideal) (k0_pay20 (k0_pay13 (up3 g))) (k0_pay29 (k0_pay22 (k0_pay6 (up3 g))))
        (k0_pay40 (k0_pay31 (k0_pay6 (up3 g)))) (k0_pay42 (k0_pay6 (up3 g)))
      = addf (F := Ideal) (addf (F := Ideal) (addf (F := Ideal) (k0_pay20 (k0_pay13 (up3 g))) (k0_pay20 (k0_pay22 (k0_pay6 (up3 g)))))
          (k0_pay20 (k0_pay31 (k0_pay6 (up3 g))))) (k0_pay20 (k0_pay42 (k0_pay6 (up3 g)))) := rfl
  rw [e, pay6, pay13, pay22, pay31, pay42]
  simp only [pay20]
  funext i
  idx_vars i
  pointwise [up2_at]
  simp only [← EReal.coe_add]
  exact congrArg _ (sum_slices fun r => g 0 r i1).symm

/-- What the first tile leaves in the sums. -/
theorem pay51 (v62 v116 v170 : FVec Ideal S512x640 .f32) (v181 v185 : FVec Ideal S512x512 .bf16) :
    k0_pay51 (F := Ideal) v62 v116 v170 v181 v185 = k0_pay49 (F := Ideal) v62 v116 v170 v181 v185 := by
  funext i
  idx_vars i
  pointwise [k0_pay51]

theorem pay52 (v64 v118 v172 : FVec Ideal S1x512 .f32) (v174 : FVec Ideal S512x512 .f32) :
    k0_pay52 (F := Ideal) v64 v118 v172 v174 = k0_pay50 (F := Ideal) v64 v118 v172 v174 := by
  funext i
  idx_vars i
  pointwise [k0_pay52]

/-- What the second tile leaves in the sums. -/
theorem pay53 (v62 v116 v170 : FVec Ideal S512x640 .f32) (v181 v185 : FVec Ideal S512x512 .bf16) (old : Vec Ideal S512x640 .f32) :
    k0_pay53 (F := Ideal) v62 v116 v170 v181 v185 old = addf (F := Ideal) (φ := .f32) old (k0_pay49 (F := Ideal) v62 v116 v170 v181 v185) := by
  funext i
  idx_vars i
  pointwise [k0_pay53]

theorem pay54 (v64 v118 v172 : FVec Ideal S1x512 .f32) (v174 : FVec Ideal S512x512 .f32) (old : Vec Ideal S1x512 .f32) :
    k0_pay54 (F := Ideal) v64 v118 v172 v174 old = addf (F := Ideal) (φ := .f32) old (k0_pay50 (F := Ideal) v64 v118 v172 v174) := by
  funext i
  idx_vars i
  pointwise [k0_pay54]

theorem add_up2 {a b : ℕ} (f g : Fin a → Fin b → ℝ) :
    addf (F := Ideal) (s := ⟨2, ![a, b]⟩) (φ := .f32) (up2 f) (up2 g) = up2 fun i j => f i j + g i j := by
  funext i
  exact (EReal.coe_add _ _).symm

end Cert.KernelIdeal.Hand

end
-- ==== Proof.Blocks.lean ====
/-
  The blocks the kernel's body is given, as rows of the inputs.

  Grid point `t` works on batch `t / 2` and on tile `t % 2` of that batch's atoms. The weights reach the body centred
  or cut in half, the same at every point.
-/
module

public import proofs.«01_k».proof.Proof.Spec
public import proofs.«01_k».proof.Proof.Gen.KernelIdeal.Value
public import Idealize.ShloMosaic.Lib.Pipeline.ValueKit

@[expose] public section

set_option maxRecDepth 16384

noncomputable section

open Idealize.ShloMosaic Idealize.ShloMosaic.TcCoe Idealize.SL.Sem

namespace Cert.KernelIdeal.Hand

open Cert.KernelIdeal Cert.KernelIdeal.Gen Cert.Spec Cert.Lift

variable (m : (ℓ : Loc nD τ sig) → Buf (Elt Ideal) ℓ)

/-- The argument buffers hold the inputs `D`. -/
structure Holds (c : Dev nD) (D : Data) : Prop where
  fine : m ((c : Thread nD τ).loc main_arg0) = up3 D.fine
  coarse : m ((c : Thread nD τ).loc main_arg1) = up3 D.coarse
  ids : m ((c : Thread nD τ).loc main_arg2) = fun i : S8x4096.Idx => D.ids (i 0) (i 1)
  glob : m ((c : Thread nD τ).loc main_arg3) = up3 D.glob
  wf : m ((c : Thread nD τ).loc main_arg4) = raw2 D.wf
  wc : m ((c : Thread nD τ).loc main_arg8) = raw2 D.wc
  wg : m ((c : Thread nD τ).loc main_arg12) = raw2 D.wg
  wi : m ((c : Thread nD τ).loc main_arg14) = raw2 D.wi

variable {m} {c : Dev nD} {D : Data}

/-! ## What the host operations before the grid leave -/

theorem entry_wf (H : Holds m c D) : V m c main_v7 = raw2 (center D.wf) := by
  entry_read
  rw [H.wf]
  funext i
  idx_vars i
  pointwise [raw2_at]
  simp only [zero_add, ofBits_512]
  rfl

theorem entry_wc (H : Holds m c D) : V m c main_v14 = raw2 (center D.wc) := by
  entry_read
  rw [H.wc]
  funext i
  idx_vars i
  pointwise [raw2_at]
  simp only [zero_add, ofBits_512]
  rfl

theorem entry_ga (H : Holds m c D) : V m c main_v16 = raw2 (upper D.wg) := by
  entry_read
  rw [H.wg]
  funext i
  idx_vars i
  pointwise [raw2_at]
  rfl

theorem entry_gb (H : Holds m c D) : V m c main_v18 = raw2 (lower D.wg) := by
  entry_read
  rw [H.wg]
  funext i
  idx_vars i
  pointwise [raw2_at]
  rfl

theorem entry_ia (H : Holds m c D) : V m c main_v26 = raw2 (center (upper D.wi)) := by
  entry_read
  rw [H.wi]
  funext i
  idx_vars i
  pointwise [raw2_at]
  simp only [zero_add, ofBits_512]
  rfl

theorem entry_ib (H : Holds m c D) : V m c main_v34 = raw2 (center (lower D.wi)) := by
  entry_read
  rw [H.wi]
  funext i
  idx_vars i
  pointwise [raw2_at]
  simp only [zero_add, ofBits_512]
  rfl

theorem entry_ids (H : Holds m c D) (i : Fin 16) (z : Fin 1) (r : Fin 2048) :
    (V m c main_v0 : Vec Ideal S16x1x2048 .i32) (ix3 i z r) = D.ids ⟨i / 2, by omega⟩ ⟨i % 2 * 2048 + r, by omega⟩ := by
  entry_read
  rw [H.ids]
  pointwise

/-! ## The blocks -/

theorem idx : ∀ t : Fin cfg0.N, win0_0.index t = ![t.val / 2, t.val % 2, 0] ∧ win0_1.index t = ![t.val / 2, t.val % 2, 0]
    ∧ win0_2.index t = ![t.val, 0, 0] ∧ win0_3.index t = ![t.val / 2, 0, 0]
    ∧ win0_4.index t = ![0, 0] ∧ win0_5.index t = ![0, 0] ∧ win0_6.index t = ![0, 0] ∧ win0_7.index t = ![0, 0]
    ∧ win0_8.index t = ![0, 0] ∧ win0_9.index t = ![0, 0]
    ∧ win0_10.index t = ![t.val / 2, t.val % 2, 0] ∧ win0_11.index t = ![t.val / 2, 0, 0] :=
  (by decide +kernel : ∀ t : Fin grid0.N, _)

theorem lt16 (t : Fin cfg0.N) : t.val < 16 := lt_of_lt_of_eq t.isLt N_0

/-- The batch of a point. -/
abbrev batch (t : Fin cfg0.N) : Fin 8 := ⟨t.val / 2, by have := lt16 t; omega⟩

/-- The atom at row `r` of a point's tile. -/
abbrev atom (t : Fin cfg0.N) (r : Fin 2048) : Fin 4096 := ⟨t.val % 2 * 2048 + r, by omega⟩

theorem block_fine (H : Holds m c D) (t : Fin cfg0.N) :
    (iblk m c 0 t : Vec Ideal S1x2048x512 .f32) = up3 (fun (_ : Fin 1) (r : Fin 2048) => D.fine (batch t) (atom t r)) := by
  have e := H.fine
  funext y
  blk_simp [iblk]
  rw [V_main_arg0, e]
  refine up3_of _ _ _ _ _ ?_ ?_ ?_ <;> blk_simp [idx t] <;> (try (have := (y 0).isLt; omega))

theorem block_glob (H : Holds m c D) (t : Fin cfg0.N) :
    (iblk m c 1 t : Vec Ideal S1x2048x512 .f32) = up3 (fun (_ : Fin 1) (r : Fin 2048) => D.glob (batch t) (atom t r)) := by
  have e := H.glob
  funext y
  blk_simp [iblk]
  rw [V_main_arg3, e]
  refine up3_of _ _ _ _ _ ?_ ?_ ?_ <;> blk_simp [idx t] <;> (try (have := (y 0).isLt; omega))

theorem block_coarse (H : Holds m c D) (t : Fin cfg0.N) :
    (iblk m c 3 t : Vec Ideal S1x512x512 .f32) = up3 (fun (_ : Fin 1) (r : Fin 512) => D.coarse (batch t) (r)) := by
  have e := H.coarse
  funext y
  blk_simp [iblk]
  rw [V_main_arg1, e]
  refine up3_of _ _ _ _ _ ?_ ?_ ?_ <;> blk_simp [idx t] <;> (try (have := (y 0).isLt; omega))

theorem block_ids (H : Holds m c D) (t : Fin cfg0.N) (r : Fin 2048) :
    (iblk m c 2 t : Vec Ideal S1x1x2048 .i32) (ix3 0 0 r) = D.ids (batch t) (atom t r) := by
  refine Eq.trans ?_ (entry_ids H ⟨t.val, lt16 t⟩ 0 r)
  blk_ext [iblk, idx t]

theorem block_wf (H : Holds m c D) (t : Fin cfg0.N) : (iblk m c 4 t : Vec Ideal S512x512 .bf16) = raw2 (center D.wf) := by
  refine Eq.trans ?_ (entry_wf H)
  blk_ext! [iblk, idx t]

theorem block_wc (H : Holds m c D) (t : Fin cfg0.N) : (iblk m c 5 t : Vec Ideal S512x512 .bf16) = raw2 (center D.wc) := by
  refine Eq.trans ?_ (entry_wc H)
  blk_ext! [iblk, idx t]

theorem block_ga (H : Holds m c D) (t : Fin cfg0.N) : (iblk m c 6 t : Vec Ideal S512x512 .bf16) = raw2 (upper D.wg) := by
  refine Eq.trans ?_ (entry_ga H)
  blk_ext! [iblk, idx t]

theorem block_gb (H : Holds m c D) (t : Fin cfg0.N) : (iblk m c 7 t : Vec Ideal S512x512 .bf16) = raw2 (lower D.wg) := by
  refine Eq.trans ?_ (entry_gb H)
  blk_ext! [iblk, idx t]

theorem block_ia (H : Holds m c D) (t : Fin cfg0.N) : (iblk m c 8 t : Vec Ideal S512x512 .bf16) = raw2 (center (upper D.wi)) := by
  refine Eq.trans ?_ (entry_ia H)
  blk_ext! [iblk, idx t]

theorem block_ib (H : Holds m c D) (t : Fin cfg0.N) : (iblk m c 9 t : Vec Ideal S512x512 .bf16) = raw2 (center (lower D.wi)) := by
  refine Eq.trans ?_ (entry_ib H)
  blk_ext! [iblk, idx t]

end Cert.KernelIdeal.Hand

end
-- ==== Proof.Tiles.lean ====
/-
  What a grid point leaves in the buffers, as rows of the inputs.

  At the first tile of a batch the body stores the table of the batch's coarse rows and the tile's sums; at the second
  it adds its own sums to them, and then has the sums over all the batch's atoms, which is what the coarse rows need.
-/
module

public import proofs.«01_k».proof.Proof.Slices
public import proofs.«01_k».proof.Proof.Blocks
public import Idealize.ShloMosaic.Lib.Pipeline.ReadBack

@[expose] public section

set_option maxRecDepth 16384

noncomputable section

open Idealize.ShloMosaic Idealize.ShloMosaic.TcCoe Idealize.SL.Sem

namespace Cert.KernelIdeal.Hand

open Cert.KernelIdeal Cert.KernelIdeal.Gen Cert.Spec Cert.Lift

variable {m : (ℓ : Loc nD τ sig) → Buf (Elt Ideal) ℓ} {c : Dev nD} {D : Data}

/-- The table of a batch: the normalised coarse rows, and their products with the gate's second matrix. -/
def tbl (D : Data) (b : Fin 8) : Fin 512 → Fin 1024 → EReal :=
  both (table (D.coarse b) D.wc) fun c => lin (table (D.coarse b) D.wc c) (lower D.wg)

/-- The table's right half at an index: the stored products. -/
theorem tbl_right (b : Fin 8) (x : S512x512.Idx) (y : S512x1024.Idx) (h0 : (y 0).val = (x 0).val) (h1 : (y 1).val = 512 + (x 1).val)
    (x1_lt : (x 1).val < 512) : raw2 (fun c => lin (table (D.coarse b) D.wc c) (lower D.wg)) x = raw2 (tbl D b) y := by
  refine Eq.trans ?_ (raw2_of (tbl D b) y (x 0) ⟨512 + (x 1).val, by omega⟩ h0 h1).symm
  exact (both_right (table (D.coarse b) D.wc) (fun c => lin (table (D.coarse b) D.wc c) (lower D.wg)) (x 0) (x 1) _).symm

/-- The table's left half at an index: the stored rows. -/
theorem tbl_left (b : Fin 8) (x : S512x512.Idx) (y : S512x1024.Idx) (h0 : (y 0).val = (x 0).val) (h1 : (y 1).val = (x 1).val)
    (x1_lt : (x 1).val < 512) : up2 (table (D.coarse b) D.wc) x = raw2 (tbl D b) y := by
  refine Eq.trans ?_ (raw2_of (tbl D b) y (x 0) ⟨(x 1).val, by omega⟩ h0 h1).symm
  exact (both_left (table (D.coarse b) D.wc) (fun c => lin (table (D.coarse b) D.wc c) (lower D.wg)) (x 0) (x 1) _).symm

theorem table_A (H : Holds m c D) (t : Fin cfg0.N) (h0 : t.val % 2 = 0) :
    (outsAt0 m c t.val t.isLt).2.2.2.2 = raw2 (tbl D (batch t)) := by
  have h2 : ¬ t.val % 2 = 1 := by omega
  rw [outsAt0_A m c t h0 h0 h2 h2]
  frame_out
  rw [block_coarse H, block_wc H, block_gb H, pay10, pay11]
  funext y
  clear h0 h2
  canon_tiles x h
  · exact tbl_right (batch t) x y h0 h1 x1_lt
  · exact tbl_left (batch t) x y h0 h1 x1_lt

/-- The whole table's rectangle places every index at itself. -/
theorem whole_idx (inb) (y : S512x1024.Idx) : (Rect.unit (s := S512x1024) ![0, 0] ![512, 1024] inb).toLoadRect.idx y = y := by
  funext a
  fin_cases a <;> exact Fin.ext (Nat.zero_add _ |>.trans (Nat.one_mul _))

/-- The tile's rows of the first result at a point. -/
def fineOf (D : Data) (t : Fin cfg0.N) : Fin 2048 → Row :=
  fineRow (fun r => D.fine (batch t) (atom t r)) (fun r => D.glob (batch t) (atom t r))
    (fun r => sel (D.ids (batch t) (atom t r))) (table (D.coarse (batch t)) D.wc)
    (fun c => lin (table (D.coarse (batch t)) D.wc c) (lower D.wg)) (upper D.wg) (center (upper D.wi)) (center (lower D.wi))

theorem fineOf_at (t : Fin cfg0.N) (o : ℕ) (x : S1x512x512.Idx) (y : S1x2048x512.Idx)
    (h1 : (y 1).val = o + (x 1).val) (h2 : (y 2).val = (x 2).val) (r : Fin 512 → Fin 2048) (hr : ∀ q, (r q).val = o + q.val) :
    up3 (fun (_ : Fin 1) q => fineOf D t (r q)) x = up3 (fun (_ : Fin 1) => fineOf D t) y := by
  refine (up3_of (fun (_ : Fin 1) => fineOf D t) y 0 (r (x 1)) (x 2) ?_ ?_ h2).symm
  · have := (y 0).isLt
    exact Nat.lt_one_iff.mp this
  · exact h1.trans (hr (x 1)).symm

theorem out_A (H : Holds m c D) (t : Fin cfg0.N) (h0 : t.val % 2 = 0) :
    (outsAt0 m c t.val t.isLt).1 = up3 (fun (_ : Fin 1) => fineOf D t) := by
  have h2 : ¬ t.val % 2 = 1 := by omega
  rw [outsAt0_A m c t h0 h0 h2 h2]
  frame_out
  generalize hT : View.readCov (Val := Elt Ideal) (View.whole cc0_scratch2) _ _ = T
  have eT : T = raw2 (tbl D (batch t)) := by
    rw [← hT, View.readCov_eq_canon', block_coarse H, block_wc H, block_gb H, pay10, pay11]
    funext y
    rw [whole_idx]
    clear h0 h2 hT
    canon_tiles x h
    · exact tbl_right (batch t) x y h0 h1 x1_lt
    · exact tbl_left (batch t) x y h0 h1 x1_lt
  rw [eT, tbl, block_fine H, block_glob H, block_ga H, block_ia H, block_ib H, store0, store1, store2, store3]
  simp only [block_ids H]
  funext y
  clear h0 h2 hT eT
  canon_tiles x h
  · exact fineOf_at t 1536 x y h1 h2 (fun q => ⟨1536 + q, by omega⟩) fun _ => rfl
  · exact fineOf_at t 1024 x y h1 h2 (fun q => ⟨1024 + q, by omega⟩) fun _ => rfl
  · exact fineOf_at t 512 x y h1 h2 (fun q => ⟨512 + q, by omega⟩) fun _ => rfl
  · exact fineOf_at t 0 x y (h1.trans (Nat.zero_add _).symm) h2 (fun q => ⟨q, by omega⟩) fun _ => (Nat.zero_add _).symm

theorem sums_A (H : Holds m c D) (t : Fin cfg0.N) (h0 : t.val % 2 = 0) :
    (outsAt0 m c t.val t.isLt).2.2.1
      = up2 (tileSums (fun r => D.fine (batch t) (atom t r)) fun r => sel (D.ids (batch t) (atom t r))) := by
  have h2 : ¬ t.val % 2 = 1 := by omega
  rw [outsAt0_A m c t h0 h0 h2 h2]
  frame_out
  rw [pay51, block_fine H, pay49]
  simp only [block_ids H]

theorem glob_A (H : Holds m c D) (t : Fin cfg0.N) (h0 : t.val % 2 = 0) :
    (outsAt0 m c t.val t.isLt).2.2.2.1 = up2 (fun (_ : Fin 1) => tileGlob (fun r => D.glob (batch t) (atom t r))) := by
  have h2 : ¬ t.val % 2 = 1 := by omega
  rw [outsAt0_A m c t h0 h0 h2 h2]
  frame_out
  rw [pay52, block_glob H, pay50]

/-! ## The second tile -/

theorem pay4 (x : FVec Ideal S512x512 .f32) (n : Vec Ideal S512x1 .f32) (S : Vec Ideal S512x512 .f32) (wf wa wb : Vec Ideal S512x512 .bf16) :
    k0_pay4 (F := Ideal) x n S wf wa wb = k0_pay2 (F := Ideal) x n S wf wa wb := rfl

/-- The point before an odd one. -/
abbrev before (t : Fin cfg0.N) : Fin cfg0.N := ⟨t.val - 1, lt_of_le_of_lt (Nat.sub_le _ _) t.isLt⟩

theorem batch_before (t : Fin cfg0.N) (h : t.val % 2 = 1) : batch (before t) = batch t :=
  Fin.ext (show (t.val - 1) / 2 = t.val / 2 by omega)

theorem atom_before (t : Fin cfg0.N) (h : t.val % 2 = 1) (r : Fin 2048) : atom (before t) r = ⟨r, by omega⟩ :=
  Fin.ext (show (t.val - 1) % 2 * 2048 + r.val = r.val by omega)

theorem atom_odd (t : Fin cfg0.N) (h : t.val % 2 = 1) (r : Fin 2048) : atom t r = ⟨2048 + r, by omega⟩ :=
  Fin.ext (show t.val % 2 * 2048 + r.val = 2048 + r.val by omega)

/-- The sums by coarse node over all the batch's atoms in the first 512 columns, and the counts in the others. -/
def batchSums (D : Data) (b : Fin 8) : Fin 512 → Fin 640 → ℝ := fun c j =>
  ∑ n, onehot (sel (D.ids b n)) c * ext (D.fine b n) j

/-- The column sums of the batch's global rows. -/
def batchGlob (D : Data) (b : Fin 8) : Row := fun j => ∑ n, D.glob b n j

theorem sums_join (t : Fin cfg0.N) (h : t.val % 2 = 1) (i : Fin 512) (j : Fin 640) :
    tileSums (fun r => D.fine (batch (before t)) (atom (before t) r)) (fun r => sel (D.ids (batch (before t)) (atom (before t) r))) i j
      + tileSums (fun r => D.fine (batch t) (atom t r)) (fun r => sel (D.ids (batch t) (atom t r))) i j
      = batchSums D (batch t) i j := by
  unfold tileSums batchSums
  rw [sum_tiles]
  simp only [atom_before t h, batch_before t h, atom_odd t h]

theorem glob_join (t : Fin cfg0.N) (h : t.val % 2 = 1) (j : Fin 512) :
    tileGlob (fun r => D.glob (batch (before t)) (atom (before t) r)) j + tileGlob (fun r => D.glob (batch t) (atom t r)) j
      = batchGlob D (batch t) j := by
  unfold tileGlob batchGlob
  rw [sum_tiles]
  simp only [atom_before t h, batch_before t h, atom_odd t h]

theorem table_before (H : Holds m c D) (t : Fin cfg0.N) (h : t.val % 2 = 1) (hb) :
    (outsAt0 m c (t.val - 1) hb).2.2.2.2 = raw2 (tbl D (batch t)) := by
  rw [← batch_before t h]
  exact table_A H (before t) (show (t.val - 1) % 2 = 0 by omega)

theorem out_B (H : Holds m c D) (t : Fin cfg0.N) (h2 : t.val % 2 = 1) :
    (outsAt0 m c t.val t.isLt).1 = up3 (fun (_ : Fin 1) => fineOf D t) := by
  have h0 : ¬ t.val % 2 = 0 := by omega
  rw [outsAt0_B m c t h0 h0 h2 h2]
  frame_out
  simp only [read_unread_whole]
  rw [table_before H t h2, tbl, block_fine H, block_glob H, block_ga H, block_ia H, block_ib H, store0, store1, store2, store3]
  simp only [block_ids H]
  funext y
  clear h0 h2
  canon_tiles x h
  · exact fineOf_at t 1536 x y h1 h2 (fun q => ⟨1536 + q, by omega⟩) fun _ => rfl
  · exact fineOf_at t 1024 x y h1 h2 (fun q => ⟨1024 + q, by omega⟩) fun _ => rfl
  · exact fineOf_at t 512 x y h1 h2 (fun q => ⟨512 + q, by omega⟩) fun _ => rfl
  · exact fineOf_at t 0 x y (h1.trans (Nat.zero_add _).symm) h2 (fun q => ⟨q, by omega⟩) fun _ => (Nat.zero_add _).symm

/-- The coarse rows of the second result at a batch. -/
def coarseOf (D : Data) (b : Fin 8) : Mat := fun k =>
  kCoarse (fun j => batchSums D b k ⟨j, by omega⟩) (batchSums D b k ⟨512, by omega⟩) (D.coarse b k)
    (fun j => batchGlob D b j * (1 / 4096)) D.wf (upper D.wg) (lower D.wg) (upper D.wi) (lower D.wi)

theorem out_coarse (H : Holds m c D) (t : Fin cfg0.N) (h2 : t.val % 2 = 1) :
    (outsAt0 m c t.val t.isLt).2.1 = up3 (fun (_ : Fin 1) => coarseOf D (batch t)) := by
  have h0 : ¬ t.val % 2 = 0 := by omega
  have e0 : ∀ hb, (outsAt0 m c (t.val - 1) hb).2.2.1 = up2 (tileSums (fun r => D.fine (batch (before t)) (atom (before t) r))
      (fun r => sel (D.ids (batch (before t)) (atom (before t) r)))) := fun _ => sums_A H (before t) (show (t.val - 1) % 2 = 0 by omega)
  have e1 : ∀ hb, (outsAt0 m c (t.val - 1) hb).2.2.2.1 = up2 (fun (_ : Fin 1) =>
      tileGlob (fun r => D.glob (batch (before t)) (atom (before t) r))) := fun _ => glob_A H (before t) (show (t.val - 1) % 2 = 0 by omega)
  rw [outsAt0_B m c t h0 h0 h2 h2]
  frame_out
  simp only [read_unread_whole]
  rw [e0, e1, pay53, pay54, block_fine H, block_glob H, pay49, pay50]
  simp only [block_ids H]
  rw [add_up2, add_up2]
  simp only [sums_join t h2, glob_join t h2]
  generalize hN : View.readCov (Val := Elt Ideal) (View.whole cc0_scratch0) _ (Rect.unit ![0, 512] ![512, 1] _).toLoadRect = N
  generalize hS : View.readCov (Val := Elt Ideal) (View.whole cc0_scratch0) _ (Rect.unit ![0, 0] ![512, 512] _).toLoadRect = S
  have eN : N = up2 (fun k (_ : Fin 1) => batchSums D (batch t) k ⟨512, by omega⟩) := by
    rw [← hN, View.readCov_eq_canon']
    funext y
    clear h0 h2 hN hS e0 e1
    canon_tiles x h
    refine up2_of _ x (y 0) ⟨512, by omega⟩ (h0.symm.trans (show 0 + 1 * (y 0).val = (y 0).val by omega)) (h1.symm.trans ?_)
    have : (y 1).val < 1 := (y 1).isLt
    show 512 + 1 * (y 1).val = 512
    omega
  have eS : S = up2 (fun k (j : Fin 512) => batchSums D (batch t) k ⟨j, by omega⟩) := by
    rw [← hS, View.readCov_eq_canon']
    funext y
    clear h0 h2 hN hS e0 e1
    canon_tiles x h
    have y1 : (y 1).val < 512 := (y 1).isLt
    exact up2_of _ x (y 0) ⟨(y 1).val, by omega⟩ (h0.symm.trans (show 0 + 1 * (y 0).val = (y 0).val by omega))
      (h1.symm.trans (show 0 + 1 * (y 1).val = (y 1).val by omega))
  rw [eN, eS, pay4, block_coarse H, block_wf H, block_ga H, block_gb H, block_ia H, block_ib H, pay7, pay2, pay3, pay1]
  rfl

end Cert.KernelIdeal.Hand

end
-- ==== Proof.Arrays.lean ====
/-
  The kernel's two results, whole: every row is the reference's row.
-/
module

public import proofs.«01_k».proof.Proof.Tiles

@[expose] public section

set_option maxRecDepth 16384

noncomputable section

open Idealize.ShloMosaic Idealize.ShloMosaic.TcCoe Idealize.SL.Sem

namespace Cert.KernelIdeal.Hand

open Cert.KernelIdeal Cert.KernelIdeal.Gen Cert.Spec Cert.Lift

variable {m : (ℓ : Loc nD τ sig) → Buf (Elt Ideal) ℓ} {c : Dev nD} {D : Data}

/-- A row of the kernel's tile is the reference's row of that atom. -/
theorem fineOf_eq (t : Fin cfg0.N) (r : Fin 2048) :
    fineOf D t r = rFine (sel (D.ids (batch t) (atom t r))) (D.fine (batch t) (atom t r)) (D.glob (batch t) (atom t r))
      (D.coarse (batch t)) D.wc (upper D.wg) (lower D.wg) (upper D.wi) (lower D.wi) := by
  rw [← kFine_eq]
  rfl

theorem array_fine (H : Holds m c D) : (dats m 0 c).arrAt 10 cfg0.N = up3 (fineResult D) := by
  refine (dats m 0 c).arrAt_eq_of_covers 10 _ (by decide +kernel) fun t hf y => ?_
  blk_simp
  rw [after0_10]
  have e : (outsAt0 m c t.val t.isLt).1 = up3 (fun (_ : Fin 1) => fineOf D t) := by
    rcases Nat.mod_two_eq_zero_or_one t.val with h | h
    · exact out_A H t h
    · exact out_B H t h
  rw [e]
  refine Eq.trans ?_ (up3_of (fineResult D) _ (batch t) (atom t (y 1)) (y 2) ?_ ?_ ?_).symm
  · exact congrArg (fun r : ℝ => (r : EReal)) (congrFun (fineOf_eq t (y 1)) (y 2))
  · blk_simp [idx t]
  · blk_simp [idx t]
  · blk_simp [idx t]

/-- A coarse row of the kernel is the reference's. -/
theorem coarseOf_eq (b : Fin 8) (k : Fin 512) : coarseOf D b k = coarseResult D b k := by
  have e0 : (fun j : Fin 512 => batchSums D b k ⟨j, by omega⟩) = fun j => ∑ n, onehot (sel (D.ids b n)) k * D.fine b n j := by
    funext j
    unfold batchSums ext
    exact Finset.sum_congr rfl fun n _ => by rw [dif_pos j.isLt]
  have e1 : batchSums D b k ⟨512, by omega⟩ = ∑ n, onehot (sel (D.ids b n)) k := by
    unfold batchSums ext
    exact Finset.sum_congr rfl fun n _ => by rw [dif_neg (lt_irrefl 512), mul_one]
  have e2 : (fun j => batchGlob D b j * (1 / 4096)) = fun j => (∑ n, D.glob b n j) / 4096 := by
    funext j
    unfold batchGlob
    ring
  unfold coarseOf coarseResult
  rw [e0, e1, e2, kCoarse_eq]

theorem array_coarse (H : Holds m c D) : (dats m 0 c).arrAt 11 cfg0.N = up3 (coarseResult D) := by
  refine (dats m 0 c).arrAt_eq_of_covers 11 _ (by decide +kernel) fun t hf y => ?_
  blk_simp
  rw [after0_11, out_coarse H t ((flush0_11 t).mp hf)]
  refine Eq.trans ?_ (up3_of (coarseResult D) _ (batch t) (y 1) (y 2) ?_ ?_ ?_).symm
  · exact congrArg (fun r : ℝ => (r : EReal)) (congrFun (coarseOf_eq (batch t) (y 1)) (y 2))
  · blk_simp [idx t]
  · blk_simp [idx t]
  · blk_simp [idx t]

end Cert.KernelIdeal.Hand

end
-- ==== Proof.RefWords.lean ====
/-
  The reference's coarse node numbers.

  The reference keeps a node number when it lies in the table, replaces it by zero when it does not, and multiplies what
  it reads there by a flag. Its sums over the atoms of a node are scatters, its table rows a gather; this module says
  where each lands and what the number there is.
-/
module

public import proofs.«01_k».proof.Proof.Spec
public import proofs.«01_k».proof.Proof.Gen.ReferenceIdeal.Read
public import Idealize.ShloMosaic.Lib.Routing.OpsPair

@[expose] public section

set_option maxRecDepth 16384

noncomputable section

open Idealize.ShloMosaic Idealize.ShloMosaic.TcCoe Idealize.SL.Sem

namespace Cert.ReferenceIdeal.Hand

open Cert.ReferenceIdeal Cert.ReferenceIdeal.Gen Cert.ReferenceIdeal.Read Cert.Spec Cert.Lift

/-! ## One node number -/

/-- The reference's test that a node number lies in the table. -/
def keep (w : BitVec 32) : BitVec 1 := IntOp.andi (IntOp.cmpi .sge w 0#32) (IntOp.cmpi .slt w 512#32)

/-- The place a node number reads: itself when it lies in the table, zero when it does not. -/
def place (w : BitVec 32) : BitVec 32 := Scalar.select (keep w) w 0#32

/-- One when an atom has a coarse node, zero when it has none. -/
def flag (s : Option (Fin 512)) : ℝ := if s.isSome then 1 else 0

theorem keep_in (w : BitVec 32) (h : w.toNat < 512) : keep w = 1#1 := by
  have hw : w.toInt = w.toNat := BitVec.toInt_eq_toNat_of_lt (by omega)
  have h0 : (0#32).sle w = true := by
    rw [BitVec.sle_eq_decide, decide_eq_true_eq, hw]
    have : (0#32).toInt = 0 := by decide
    omega
  have h1 : w.slt 512#32 = true := by
    rw [BitVec.slt_eq_decide, decide_eq_true_eq, hw]
    have : (512#32).toInt = 512 := by decide
    omega
  unfold keep
  simp [IntOp.andi, IntOp.cmpi, h0, h1]

theorem keep_out (w : BitVec 32) (h : ¬ w.toNat < 512) : keep w = 0#1 := by
  unfold keep
  have key : ¬ ((0#32).sle w = true ∧ w.slt 512#32 = true) := by
    rintro ⟨h0, h1⟩
    rw [BitVec.sle_eq_decide, decide_eq_true_eq] at h0
    rw [BitVec.slt_eq_decide, decide_eq_true_eq] at h1
    have e0 : (0#32).toInt = 0 := by decide
    have e1 : (512#32).toInt = 512 := by decide
    have := BitVec.toInt_eq_toNat_cond w
    split at this <;> omega
  cases h0 : (0#32).sle w <;> cases h1 : w.slt 512#32 <;> simp_all [IntOp.andi, IntOp.cmpi]

theorem place_in (w : BitVec 32) (h : w.toNat < 512) : place w = w := by
  unfold place; rw [keep_in w h]; rfl

theorem place_out (w : BitVec 32) (h : ¬ w.toNat < 512) : place w = 0#32 := by
  unfold place; rw [keep_out w h]; rfl

theorem place_lt (w : BitVec 32) : (place w).toNat < 512 := by
  by_cases h : w.toNat < 512
  · rw [place_in w h]; exact h
  · rw [place_out w h]; decide

/-- A place is not negative, so an addition meant for negative numbers leaves it. -/
theorem wrap_place (w a : BitVec 32) : Scalar.select (IntOp.cmpi .slt (place w) 0#32) a (place w) = place w :=
  Routing.wrap_of_lt _ _ (by have := place_lt w; omega)

/-- The kept flag as a real number. -/
theorem flag_real (w : BitVec 32) : (FloatOps.uitofp .f32 (keep w) : Ideal .f32) = ((flag (sel w) : ℝ) : EReal) := by
  change (((keep w).toNat : ℝ) : EReal) = _
  unfold flag sel
  by_cases h : w.toNat < 512
  · rw [keep_in w h, dif_pos h]; simp
  · rw [keep_out w h, dif_neg h]; simp

/-- Where an atom lands and with what flag: on its own node with one, and elsewhere with zero. -/
theorem place_flag (w : BitVec 32) (k : Fin 512) (a : ℝ) :
    (if (place w).toNat = k.val then a * flag (sel w) else 0) = onehot (sel w) k * a := by
  unfold flag onehot sel
  by_cases h : w.toNat < 512
  · rw [place_in w h, dif_pos h]
    by_cases e : w.toNat = k.val
    · rw [if_pos e, if_pos (congrArg some (Fin.ext e))]; simp
    · rw [if_neg e, if_neg (fun q => e (congrArg Fin.val (Option.some.inj q)))]; simp
  · rw [dif_neg h]; simp

/-! ## The words at an index -/

/-- The atoms' node numbers as an array of words. -/
def words (q : Fin 8 → Fin 4096 → BitVec 32) : (⟨S8x4096, .i32⟩ : BufTy).Contents (Elt Ideal) := fun i : S8x4096.Idx => q (i 0) (i 1)

theorem v4_at (q : Fin 8 → Fin 4096 → BitVec 32) (b : Fin 8) (n : Fin 4096) :
    val_main_v4 (F := Ideal) (words q) (ix2 b n) = keep (q b n) := by
  pointwise [val_main_v4, val_main_v1, val_main_v3, val_main_v0, val_main_v2, val_main_c, val_main_c_0]
  rfl

theorem v5_at (q : Fin 8 → Fin 4096 → BitVec 32) (b : Fin 8) (n : Fin 4096) :
    val_main_v5 (F := Ideal) (words q) (ix2 b n) = place (q b n) := by
  have h : val_main_v5 (F := Ideal) (words q) (ix2 b n)
      = Scalar.select (val_main_v4 (F := Ideal) (words q) (ix2 b n)) (q b n) 0#32 := by
    pointwise [val_main_v5, val_main_call0_v1, val_main_call0_v0, val_main_c_1]
    rfl
  rw [h, v4_at]
  rfl

theorem v9_eq (q : Fin 8 → Fin 4096 → BitVec 32) : val_main_v9 (F := Ideal) (words q) = up2 (fun b n => flag (sel (q b n))) := by
  funext i
  idx_vars i
  show (FloatOps.uitofp .f32 (val_main_v4 (F := Ideal) (words q) (ix2 _ _)) : Ideal .f32) = _
  rw [v4_at]
  exact flag_real _

theorem v23_at (q : Fin 8 → Fin 4096 → BitVec 32) (b : Fin 8) (n : Fin 4096) :
    val_main_v23 (F := Ideal) (words q) (ix2 b n) = place (q b n) := by
  have h : val_main_v23 (F := Ideal) (words q) (ix2 b n)
      = Scalar.select (IntOp.cmpi .slt (val_main_v5 (F := Ideal) (words q) (ix2 b n)) 0#32)
          (val_main_v22 (F := Ideal) (words q) (ix2 b n)) (val_main_v5 (F := Ideal) (words q) (ix2 b n)) := rfl
  rw [h, v5_at]
  exact wrap_place _ _

theorem v38_at (q : Fin 8 → Fin 4096 → BitVec 32) (b : Fin 8) (n : Fin 4096) :
    val_main_v38 (F := Ideal) (words q) (ix2 b n) = place (q b n) := v23_at q b n

theorem v18_at (b : Fin 8) (n : Fin 4096) : val_main_v18 (F := Ideal) (ix2 b n) = BitVec.ofNat 32 b.val := by
  have h : val_main_v18 (F := Ideal) (ix2 b n)
      = Scalar.select (IntOp.cmpi .slt (BitVec.ofNat 32 b.val) 0#32) (val_main_v17 (F := Ideal) (ix2 b n)) (BitVec.ofNat 32 b.val) := by
    have e : val_main_v8 (F := Ideal) (ix2 b n) = BitVec.ofNat 32 b.val := by
      pointwise [val_main_v8, val_main_v7, val_main_v6]
    rw [← e]
    rfl
  rw [h]
  exact Routing.wrap_of_lt _ _ (by have := b.isLt; simp only [BitVec.toNat_ofNat]; omega)

theorem v33_at (b : Fin 8) (n : Fin 4096) : val_main_v33 (F := Ideal) (ix2 b n) = BitVec.ofNat 32 b.val := v18_at b n

theorem v26_batch (q : Fin 8 → Fin 4096 → BitVec 32) (b : Fin 8) (n : Fin 4096) :
    val_main_v26 (F := Ideal) (words q) (ix3 b n 0) = BitVec.ofNat 32 b.val := by
  rw [← v18_at b n]
  pointwise [val_main_v26, val_main_v24]

theorem v26_place (q : Fin 8 → Fin 4096 → BitVec 32) (b : Fin 8) (n : Fin 4096) :
    val_main_v26 (F := Ideal) (words q) (ix3 b n 1) = place (q b n) := by
  rw [← v23_at q b n]
  pointwise [val_main_v26, val_main_v25]

theorem v41_eq (q : Fin 8 → Fin 4096 → BitVec 32) : val_main_v41 (F := Ideal) (words q) = val_main_v26 (F := Ideal) (words q) := rfl

end Cert.ReferenceIdeal.Hand

end
-- ==== Proof.RefRows.lean ====
/-
  The reference's sums over a node's atoms and its table rows.

  An atom's update lands at its own batch and place, so the element of a scatter at a node is the sum over the batch's
  atoms whose place is that node. The gather reads the table's row at an atom's place.
-/
module

public import proofs.«01_k».proof.Proof.RefWords
public import Idealize.ShloMosaic.Lib.ReduceAll

@[expose] public section

set_option maxRecDepth 16384

noncomputable section

open Idealize.ShloMosaic Idealize.ShloMosaic.TcCoe Idealize.SL.Sem

namespace Cert.ReferenceIdeal.Hand

open Cert.ReferenceIdeal Cert.ReferenceIdeal.Gen Cert.ReferenceIdeal.Read Cert.Spec Cert.Lift

/-! ## Where an update lands -/

theorem rows_start0 (y : S8x4096x512.Idx) (w : IVec S8x4096x2 32) :
    scatter_S8x512x512_S8x4096x2_S8x4096x512_2_01_01_2.start y w 0 = (w (ix3 (y 0) (y 1) 0)).toInt := by
  refine congrArg (fun i => (w i).toInt) (funext fun a => ?_)
  match a with
  | ⟨0, _⟩ => rfl
  | ⟨1, _⟩ => rfl
  | ⟨2, _⟩ => rfl

theorem rows_start1 (y : S8x4096x512.Idx) (w : IVec S8x4096x2 32) :
    scatter_S8x512x512_S8x4096x2_S8x4096x512_2_01_01_2.start y w 1 = (w (ix3 (y 0) (y 1) 1)).toInt := by
  refine congrArg (fun i => (w i).toInt) (funext fun a => ?_)
  match a with
  | ⟨0, _⟩ => rfl
  | ⟨1, _⟩ => rfl
  | ⟨2, _⟩ => rfl

/-- A row's update lands at its batch, its place and its own feature. -/
theorem rows_land (q : Fin 8 → Fin 4096 → BitVec 32) (y : S8x4096x512.Idx) (b : Fin 8) (k j : Fin 512) :
    scatter_S8x512x512_S8x4096x2_S8x4096x512_2_01_01_2.resultIdx? y (val_main_v26 (F := Ideal) (words q)) = some (ix3 b k j)
      ↔ y 0 = b ∧ (place (q (y 0) (y 1))).toNat = k.val ∧ y 2 = j := by
  rw [Routing.resultIdx?_eq_some]
  have hb : (BitVec.ofNat 32 (y 0).val).toInt = ((y 0).val : ℤ) := by
    have h : (y 0).val < 8 := (y 0).isLt
    rw [BitVec.toInt_eq_toNat_of_lt (by simp only [BitVec.toNat_ofNat]; omega)]
    simp only [BitVec.toNat_ofNat]
    omega
  have hp : (place (q (y 0) (y 1))).toInt = ((place (q (y 0) (y 1))).toNat : ℤ) :=
    BitVec.toInt_eq_toNat_of_lt (by have := place_lt (q (y 0) (y 1)); omega)
  have e0 := (rows_start0 y (val_main_v26 (F := Ideal) (words q))).trans ((congrArg BitVec.toInt (v26_batch q (y 0) (y 1))).trans hb)
  have e1 := (rows_start1 y (val_main_v26 (F := Ideal) (words q))).trans ((congrArg BitVec.toInt (v26_place q (y 0) (y 1))).trans hp)
  have e2 : scatter_S8x512x512_S8x4096x2_S8x4096x512_2_01_01_2.start y (val_main_v26 (F := Ideal) (words q)) 2 = 0 := rfl
  have w0 : scatter_S8x512x512_S8x4096x2_S8x4096x512_2_01_01_2.window y 0 = 0 := rfl
  have w1 : scatter_S8x512x512_S8x4096x2_S8x4096x512_2_01_01_2.window y 1 = 0 := rfl
  have w2 : scatter_S8x512x512_S8x4096x2_S8x4096x512_2_01_01_2.window y 2 = (y 2).val := rfl
  constructor
  · intro h
    have h0 := h 0
    have h1 := h 1
    have h2 := h 2
    rw [e0, w0] at h0
    rw [e1, w1] at h1
    rw [e2, w2] at h2
    change _ = ((b.val : ℕ) : ℤ) at h0
    change _ = ((k.val : ℕ) : ℤ) at h1
    change _ = ((j.val : ℕ) : ℤ) at h2
    exact ⟨Fin.ext (by omega), by omega, Fin.ext (by omega)⟩
  · rintro ⟨h0, h1, h2⟩ a
    have h0 := congrArg Fin.val h0
    have h2 := congrArg Fin.val h2
    match a with
    | ⟨0, _⟩ =>
      refine (congrArg₂ (fun s (w : ℕ) => s + (w : ℤ)) e0 w0).trans ?_
      change _ = ((b.val : ℕ) : ℤ)
      omega
    | ⟨1, _⟩ =>
      refine (congrArg₂ (fun s (w : ℕ) => s + (w : ℤ)) e1 w1).trans ?_
      change _ = ((k.val : ℕ) : ℤ)
      omega
    | ⟨2, _⟩ =>
      refine (congrArg₂ (fun s (w : ℕ) => s + (w : ℤ)) e2 w2).trans ?_
      change _ = ((j.val : ℕ) : ℤ)
      omega

theorem counts_start (y : S8x4096.Idx) (w : IVec S8x4096x2 32) :
    scatter_S8x512_S8x4096x2_S8x4096_n_01_01_2.start y w 0 = (w (ix3 (y 0) (y 1) 0)).toInt
      ∧ scatter_S8x512_S8x4096x2_S8x4096_n_01_01_2.start y w 1 = (w (ix3 (y 0) (y 1) 1)).toInt := by
  constructor
  · refine congrArg (fun i => (w i).toInt) (funext fun a => ?_)
    match a with
    | ⟨0, _⟩ => rfl
    | ⟨1, _⟩ => rfl
    | ⟨2, _⟩ => rfl
  · refine congrArg (fun i => (w i).toInt) (funext fun a => ?_)
    match a with
    | ⟨0, _⟩ => rfl
    | ⟨1, _⟩ => rfl
    | ⟨2, _⟩ => rfl

/-- A flag lands at its batch and place. -/
theorem counts_land (q : Fin 8 → Fin 4096 → BitVec 32) (y : S8x4096.Idx) (b : Fin 8) (k : Fin 512) :
    scatter_S8x512_S8x4096x2_S8x4096_n_01_01_2.resultIdx? y (val_main_v26 (F := Ideal) (words q)) = some (ix2 b k)
      ↔ y 0 = b ∧ (place (q (y 0) (y 1))).toNat = k.val := by
  rw [Routing.resultIdx?_eq_some]
  have hb : (BitVec.ofNat 32 (y 0).val).toInt = ((y 0).val : ℤ) := by
    have h : (y 0).val < 8 := (y 0).isLt
    rw [BitVec.toInt_eq_toNat_of_lt (by simp only [BitVec.toNat_ofNat]; omega)]
    simp only [BitVec.toNat_ofNat]
    omega
  have hp : (place (q (y 0) (y 1))).toInt = ((place (q (y 0) (y 1))).toNat : ℤ) :=
    BitVec.toInt_eq_toNat_of_lt (by have := place_lt (q (y 0) (y 1)); omega)
  have e0 := (counts_start y (val_main_v26 (F := Ideal) (words q))).1.trans ((congrArg BitVec.toInt (v26_batch q (y 0) (y 1))).trans hb)
  have e1 := (counts_start y (val_main_v26 (F := Ideal) (words q))).2.trans ((congrArg BitVec.toInt (v26_place q (y 0) (y 1))).trans hp)
  have w0 : scatter_S8x512_S8x4096x2_S8x4096_n_01_01_2.window y 0 = 0 := rfl
  have w1 : scatter_S8x512_S8x4096x2_S8x4096_n_01_01_2.window y 1 = 0 := rfl
  constructor
  · intro h
    have h0 := h 0
    have h1 := h 1
    rw [e0, w0] at h0
    rw [e1, w1] at h1
    change _ = ((b.val : ℕ) : ℤ) at h0
    change _ = ((k.val : ℕ) : ℤ) at h1
    exact ⟨Fin.ext (by omega), by omega⟩
  · rintro ⟨h0, h1⟩ a
    have h0 := congrArg Fin.val h0
    match a with
    | ⟨0, _⟩ =>
      refine (congrArg₂ (fun s (w : ℕ) => s + (w : ℤ)) e0 w0).trans ?_
      change _ = ((b.val : ℕ) : ℤ)
      omega
    | ⟨1, _⟩ =>
      refine (congrArg₂ (fun s (w : ℕ) => s + (w : ℤ)) e1 w1).trans ?_
      change _ = ((k.val : ℕ) : ℤ)
      omega

/-! ## The sums -/

theorem v13_eq (f : Fin 8 → Fin 4096 → Row) (q : Fin 8 → Fin 4096 → BitVec 32) :
    val_main_v13 (F := Ideal) (up3 f) (words q) = up3 (fun b n j => f b n j * flag (sel (q b n))) := by
  funext i
  idx_vars i
  have h : val_main_v13 (F := Ideal) (up3 f) (words q) (ix3 i0 i1 i2)
      = up3 f (ix3 i0 i1 i2) * val_main_v9 (F := Ideal) (words q) (ix2 i0 i1) := by
    pointwise [val_main_v13, val_main_v12, val_main_v11]
  rw [h, v9_eq, up3_at, up2_at, up3_at, ← EReal.coe_mul]

theorem v10_at (i : S8x512x512.Idx) : val_main_v10 (F := Ideal) i = 0 := by
  idx_vars i
  pointwise [val_main_v10, val_main_cst]

theorem v28_at (i : S8x512.Idx) : val_main_v28 (F := Ideal) i = 0 := by
  idx_vars i
  pointwise [val_main_v28, val_main_cst_6]

/-- A sum of real terms over the atoms at a node, with each atom's flag, as the sum over all atoms with the one-hot
    numbers. -/
theorem sum_places (q : Fin 4096 → BitVec 32) (k : Fin 512) (a : Fin 4096 → ℝ) :
    ∑ n ∈ Finset.univ.filter (fun n => (place (q n)).toNat = k.val), ((a n * flag (sel (q n)) : ℝ) : EReal)
      = ((∑ n, onehot (sel (q n)) k * a n : ℝ) : EReal) := by
  rw [Finset.sum_filter, ← coe_sum]
  refine Finset.sum_congr rfl fun n _ => ?_
  rw [← place_flag]
  split <;> rfl

/-- The sum of a node's rows. -/
theorem v27_eq (f : Fin 8 → Fin 4096 → Row) (q : Fin 8 → Fin 4096 → BitVec 32) :
    val_main_v27 (F := Ideal) (up3 f) (words q) = up3 (fun b k j => ∑ n, onehot (sel (q b n)) k * f b n j) := by
  funext i
  idx_vars i
  change val_main_v10 (F := Ideal) _ + ∑ y ∈ Finset.univ.filter (fun y =>
    scatter_S8x512x512_S8x4096x2_S8x4096x512_2_01_01_2.resultIdx? y (val_main_v26 (F := Ideal) (words q)) = some (ix3 i0 i1 i2)),
    val_main_v13 (F := Ideal) (up3 f) (words q) y = _
  rw [v10_at, zero_add, v13_eq, up3_at, ← sum_places (fun n => q i0 n) i1 (fun n => f i0 n i2)]
  refine Finset.sum_nbij' (fun y => (y 1 : Fin 4096)) (fun n => ix3 i0 n i2) ?_ ?_ ?_ ?_ ?_
  · intro y hy
    obtain ⟨h0, h1, h2⟩ := (rows_land q y i0 i1 i2).mp (Finset.mem_filter.mp hy).2
    refine Finset.mem_filter.mpr ⟨Finset.mem_univ _, ?_⟩
    rw [← h0]
    exact h1
  · intro n hn
    refine Finset.mem_filter.mpr ⟨Finset.mem_univ _, (rows_land q _ i0 i1 i2).mpr ⟨rfl, ?_, rfl⟩⟩
    exact (Finset.mem_filter.mp hn).2
  · intro y hy
    obtain ⟨h0, h1, h2⟩ := (rows_land q y i0 i1 i2).mp (Finset.mem_filter.mp hy).2
    funext a
    match a with
    | ⟨0, _⟩ => exact h0.symm
    | ⟨1, _⟩ => rfl
    | ⟨2, _⟩ => exact h2.symm
  · intro n _
    rfl
  · intro y hy
    obtain ⟨h0, h1, h2⟩ := (rows_land q y i0 i1 i2).mp (Finset.mem_filter.mp hy).2
    exact up3_of _ y i0 (y 1) i2 (congrArg Fin.val h0) rfl (congrArg Fin.val h2)

/-- The number of a node's atoms. -/
theorem v42_eq (q : Fin 8 → Fin 4096 → BitVec 32) :
    val_main_v42 (F := Ideal) (words q) = up2 (fun b k => ∑ n, onehot (sel (q b n)) k) := by
  funext i
  idx_vars i
  change val_main_v28 (F := Ideal) _ + ∑ y ∈ Finset.univ.filter (fun y =>
    scatter_S8x512_S8x4096x2_S8x4096_n_01_01_2.resultIdx? y (val_main_v26 (F := Ideal) (words q)) = some (ix2 i0 i1)),
    val_main_v9 (F := Ideal) (words q) y = _
  have hs := sum_places (fun n => q i0 n) i1 (fun _ => 1)
  simp only [mul_one, one_mul] at hs
  rw [v28_at, zero_add, v9_eq, up2_at, ← hs]
  refine Finset.sum_nbij' (fun y => (y 1 : Fin 4096)) (fun n => ix2 i0 n) ?_ ?_ ?_ ?_ ?_
  · intro y hy
    obtain ⟨h0, h1⟩ := (counts_land q y i0 i1).mp (Finset.mem_filter.mp hy).2
    refine Finset.mem_filter.mpr ⟨Finset.mem_univ _, ?_⟩
    rw [← h0]
    exact h1
  · intro n hn
    refine Finset.mem_filter.mpr ⟨Finset.mem_univ _, (counts_land q _ i0 i1).mpr ⟨rfl, ?_⟩⟩
    exact (Finset.mem_filter.mp hn).2
  · intro y hy
    obtain ⟨h0, h1⟩ := (counts_land q y i0 i1).mp (Finset.mem_filter.mp hy).2
    funext a
    match a with
    | ⟨0, _⟩ => exact h0.symm
    | ⟨1, _⟩ => rfl
  · intro n _
    rfl
  · intro y hy
    obtain ⟨h0, h1⟩ := (counts_land q y i0 i1).mp (Finset.mem_filter.mp hy).2
    exact up2_of _ y i0 (y 1) (congrArg Fin.val h0) rfl

/-! ## The table rows -/

theorem starts_at (q : Fin 8 → Fin 4096 → BitVec 32) (b : Fin 8) (n : Fin 4096) (z : Fin 1) :
    val_main_call3_v4 (F := Ideal) (words q) (ix3 b n z) = place (q b n) := by
  have e : val_main_v76 (F := Ideal) (words q) (ix3 b n z) = place (q b n) := by
    rw [← v5_at q b n]
    pointwise [val_main_v76]
  have h : val_main_call3_v4 (F := Ideal) (words q) (ix3 b n z)
      = Scalar.select (IntOp.cmpi .slt (val_main_v76 (F := Ideal) (words q) (ix3 b n z)) 0#32)
          (val_main_call3_v3 (F := Ideal) (words q) (ix3 b n z)) (val_main_v76 (F := Ideal) (words q) (ix3 b n z)) := rfl
  rw [h, e]
  exact wrap_place _ _

/-- Every start lies in the table, so the gather's range test holds everywhere. -/
theorem in_range (q : Fin 8 → Fin 4096 → BitVec 32) (i : S8x4096.Idx) : val_main_call3_v11 (F := Ideal) (words q) i = 1#1 := by
  refine Host.reduce_andi_one _ _ _ _ _ rfl fun y => ?_
  idx_vars y
  have h : val_main_call3_v10 (F := Ideal) (words q) (ix3 y0 y1 y2)
      = IntOp.andi (IntOp.cmpi .sge (val_main_call3_v4 (F := Ideal) (words q) (ix3 y0 y1 y2)) 0#32)
          (IntOp.cmpi .sle (val_main_call3_v4 (F := Ideal) (words q) (ix3 y0 y1 y2)) 511#32) := rfl
  rw [h, starts_at]
  have hp := place_lt (q y0 y1)
  have ht : (place (q y0 y1)).toInt = ((place (q y0 y1)).toNat : ℤ) := BitVec.toInt_eq_toNat_of_lt (by omega)
  have h0 : (0#32).sle (place (q y0 y1)) = true := by
    rw [BitVec.sle_eq_decide, decide_eq_true_eq, ht]
    have : (0#32).toInt = 0 := by decide
    omega
  have h1 : (place (q y0 y1)).sle 511#32 = true := by
    rw [BitVec.sle_eq_decide, decide_eq_true_eq, ht]
    have : (511#32).toInt = 511 := by decide
    omega
  simp [IntOp.andi, IntOp.cmpi, h0, h1]

theorem gather_start (y : S8x4096x512.Idx) (w : IVec S8x4096x1 32) :
    gather_S8x512x512_S8x4096x1_S8x4096x512_2_1_0_0_1_2_11512.start y w 1 = min (w (ix3 (y 0) (y 1) 0)).toInt.toNat 511 := by
  refine congrArg (fun i => min (w i).toInt.toNat 511) (funext fun a => ?_)
  match a with
  | ⟨0, _⟩ => rfl
  | ⟨1, _⟩ => rfl
  | ⟨2, _⟩ => rfl

theorem gather_at (t : Fin 8 → Mat) (q : Fin 8 → Fin 4096 → BitVec 32) (b : Fin 8) (n : Fin 4096) (j : Fin 512) :
    val_main_call3_v12 (F := Ideal) (up3 t) (words q) (ix3 b n j) = ((t b ⟨(place (q b n)).toNat, place_lt _⟩ j : ℝ) : EReal) := by
  refine up3_of t _ b ⟨(place (q b n)).toNat, place_lt _⟩ j ?_ ?_ ?_
  · change 0 + b.val + 0 = b.val
    omega
  · have hp := place_lt (q b n)
    have ht : (place (q b n)).toInt = ((place (q b n)).toNat : ℤ) := BitVec.toInt_eq_toNat_of_lt (by omega)
    have hs := gather_start (ix3 b n j) (val_main_call3_v4 (F := Ideal) (words q))
    have hv : val_main_call3_v4 (F := Ideal) (words q) (ix3 b n 0) = place (q b n) := starts_at q b n 0
    change gather_S8x512x512_S8x4096x1_S8x4096x512_2_1_0_0_1_2_11512.start (ix3 b n j) (val_main_call3_v4 (F := Ideal) (words q)) 1
      + 0 + 0 = (place (q b n)).toNat
    have hs' := hs.trans (congrArg (fun x : BitVec 32 => min x.toInt.toNat 511) hv)
    rw [hs', ht]
    omega
  · exact Nat.zero_add _

/-- The table's rows, zero for an atom with no node. -/
theorem v80_eq (t : Fin 8 → Mat) (q : Fin 8 → Fin 4096 → BitVec 32) :
    val_main_v80 (F := Ideal) (up3 t) (words q) = up3 (fun b n => rowOf (sel (q b n)) (t b)) := by
  funext i
  idx_vars i
  have h : val_main_v80 (F := Ideal) (up3 t) (words q) (ix3 i0 i1 i2)
      = Scalar.select (val_main_call3_v11 (F := Ideal) (words q) (ix2 i0 i1)) (val_main_call3_v12 (F := Ideal) (up3 t) (words q) (ix3 i0 i1 i2))
          (val_main_call3_v14 (F := Ideal) (ix3 i0 i1 i2)) * val_main_v9 (F := Ideal) (words q) (ix2 i0 i1) := by
    pointwise [val_main_v80, val_main_v77, val_main_v79, val_main_v78, val_main_call3_v13]
  rw [h, in_range, v9_eq, gather_at, up2_at, up3_at]
  change ((t i0 ⟨(place (q i0 i1)).toNat, place_lt _⟩ i2 : ℝ) : EReal) * _ = _
  rw [← EReal.coe_mul]
  refine congrArg (fun r : ℝ => (r : EReal)) ?_
  unfold flag rowOf sel
  by_cases hq : (q i0 i1).toNat < 512
  · have hp : (⟨(place (q i0 i1)).toNat, place_lt _⟩ : Fin 512) = ⟨(q i0 i1).toNat, hq⟩ := Fin.ext (congrArg BitVec.toNat (place_in _ hq))
    rw [dif_pos hq, hp]
    simp
  · rw [dif_neg hq]
    simp

end Cert.ReferenceIdeal.Hand

end
-- ==== Proof.RefStages.lean ====
/-
  The stages of the reference, on real rows and any weights.

  The reference normalises four arrays, blends two and updates two, in two shapes: once for the atoms and once for the
  coarse nodes. Each stage is written once for a shape and evaluated there to one real function of the rows.
-/
module

public import proofs.«01_k».proof.Proof.RefRows

@[expose] public section

set_option maxRecDepth 16384

noncomputable section

open Idealize.ShloMosaic Idealize.ShloMosaic.TcCoe Idealize.SL.Sem

namespace Cert.ReferenceIdeal.Hand

open Cert.ReferenceIdeal Cert.ReferenceIdeal.Gen Cert.ReferenceIdeal.Read Cert.Spec Cert.Lift

/-- The bias of a layer without bias. -/
def zeros : FVec Ideal S512 .f32 := fun _ => (0 : EReal)

/-- The gain of a layer without gain. -/
def ones : FVec Ideal S512 .f32 := fun _ => (1 : EReal)

/-! ## The atoms' stages -/

/-- The means of the atoms' rows. -/
def meanA (x : FVec Ideal S8x4096x512 .f32) : FVec Ideal S8x4096x1 .f32 :=
  Host.divf (broadcastInDim S8x4096x1 ![0, 1] bcast_S8x4096_S8x4096x1_0_1
      (Host.reduceAdd (F := Ideal) x (constant S_ .f32 0x00000000#32) reducesTo_S8x4096x512_S8x4096_d2 h_S_))
    (broadcastInDim S8x4096x1 ![] bcast_S_S8x4096x1 (constant S_ .f32 0x44000000#32))

/-- The atoms' rows with their means taken off. -/
def offA (x : FVec Ideal S8x4096x512 .f32) : FVec Ideal S8x4096x512 .f32 :=
  subf x (broadcastInDim S8x4096x512 ![0, 1, 2] bcast_S8x4096x1_S8x4096x512_0_1_2 (meanA x))

/-- A row of parameters under every atom. -/
def allA (b : FVec Ideal S512 .f32) : FVec Ideal S8x4096x512 .f32 :=
  broadcastInDim S8x4096x512 ![0, 1, 2] bcast_S1x1x512_S8x4096x512_0_1_2 (broadcastInDim S1x1x512 ![2] bcast_S512_S1x1x512_2 b)

/-- The root of the atoms' variances and `eps`. -/
def rootA (c : FVec Ideal S8x4096x512 .f32) : FVec Ideal S8x4096x1 .f32 :=
  Host.sqrt (addf (meanA (mulf c c)) (broadcastInDim S8x4096x1 ![] bcast_S_S8x4096x1 (constant S_ .f32 0x3727C5AC#32)))

/-- The atoms' rows normalised, negative entries cut to zero. -/
def normA (x : FVec Ideal S8x4096x512 .f32) (g b : FVec Ideal S512 .f32) : FVec Ideal S8x4096x512 .f32 :=
  maximumf (addf (mulf (Host.divf (offA x) (broadcastInDim S8x4096x512 ![0, 1, 2] bcast_S8x4096x1_S8x4096x512_0_1_2 (rootA (offA x))))
      (allA g)) (allA b))
    (broadcastInDim S8x4096x512 ![] bcast_S_S8x4096x512 (constant S_ .f32 0x00000000#32))

/-- The atoms' rows times a matrix. -/
def linA (x : FVec Ideal S8x4096x512 .f32) (w : FVec Ideal S512x512 .f32) (b : FVec Ideal S512 .f32) : FVec Ideal S8x4096x512 .f32 :=
  addf (Host.dotGeneral (F := Ideal) (φ₁ := .f32) (φ₂ := .f32) dot_S8x4096x512_S512x512_S8x4096x512_2_0_01_1_n_n none x w) (allA b)

/-- Two arrays of atoms' rows side by side times a matrix of twice the height. -/
def pairA (x y : FVec Ideal S8x4096x512 .f32) (w : FVec Ideal S1024x512 .f32) (b : FVec Ideal S512 .f32) : FVec Ideal S8x4096x512 .f32 :=
  addf (Host.dotGeneral (F := Ideal) (φ₁ := .f32) (φ₂ := .f32) dot_S8x4096x1024_S1024x512_S8x4096x512_2_0_01_1_n_n none
    (concatenate S8x4096x1024 2 [⟨S8x4096x512, x⟩, ⟨S8x4096x512, y⟩] concatenates_S8x4096x512_S8x4096x512_S8x4096x1024_d2) w) (allA b)

/-- One in every entry. -/
def oneA : FVec Ideal S8x4096x512 .f32 := broadcastInDim S8x4096x512 ![] bcast_S_S8x4096x512 (constant S_ .f32 0x3F800000#32)

/-- The logistic function of every entry. -/
def gateA (z : FVec Ideal S8x4096x512 .f32) : FVec Ideal S8x4096x512 .f32 :=
  Host.divf oneA (addf oneA (Host.exp (Host.negf z)))

/-- Two arrays weighed by a gate. -/
def blendA (s x e : FVec Ideal S8x4096x512 .f32) : FVec Ideal S8x4096x512 .f32 :=
  addf (mulf s x) (mulf (subf oneA s) e)

/-- A tenth of one array on top of another. -/
def addA (x z : FVec Ideal S8x4096x512 .f32) : FVec Ideal S8x4096x512 .f32 :=
  addf x (mulf (broadcastInDim S8x4096x512 ![] bcast_S_S8x4096x512 (constant S_ .f32 0x3DCCCCCD#32)) z)

theorem meanA_eq (z : Fin 8 → Fin 4096 → Line) : meanA (raw3 z) = raw3 (fun b n (_ : Fin 1) => mean (z b n)) := by
  funext i
  idx_vars i
  pointwise [meanA, raw3_at]
  simp only [zero_add, ofBits_512]
  rfl

theorem offA_eq (z : Fin 8 → Fin 4096 → Line) : offA (raw3 z) = raw3 (fun b n j => z b n j - mean (z b n)) := by
  unfold offA
  rw [meanA_eq]
  funext i
  idx_vars i
  pointwise [raw3_at]

theorem rootA_eq (z : Fin 8 → Fin 4096 → Line) :
    rootA (raw3 fun b n j => z b n j - mean (z b n)) = raw3 (fun b n (_ : Fin 1) => root (z b n)) := by
  have hs : mulf (F := Ideal) (φ := .f32) (raw3 fun b n j => z b n j - mean (z b n)) (raw3 fun b n j => z b n j - mean (z b n))
      = raw3 (fun b n k => (z b n k - mean (z b n)) * (z b n k - mean (z b n))) := rfl
  unfold rootA
  rw [hs, meanA_eq]
  funext i
  idx_vars i
  pointwise [raw3_at]
  simp only [ofBits_eps]
  rfl

theorem normA_eq (z : Fin 8 → Fin 4096 → Line) : normA (raw3 z) ones zeros = up3 (fun b n => norm (z b n)) := by
  unfold normA
  rw [offA_eq, rootA_eq]
  funext i
  idx_vars i
  pointwise [allA, ones, zeros, raw3_at, up3_at]
  exact norm_coe (z i0 i1) i2

theorem linA_eq (x : Fin 8 → Fin 4096 → Row) (w : Wts) : linA (up3 x) (raw2 w) zeros = raw3 (fun b n => lin (x b n) w) := by
  funext i
  idx_vars i
  pointwise [linA, allA, zeros, raw2_at, raw3_at, up3_at]
  rfl

theorem pairA_eq (x y : Fin 8 → Fin 4096 → Row) (w : Fin 1024 → Line) :
    pairA (up3 x) (up3 y) (raw2 w) zeros = raw3 (fun b n => pair (x b n) (y b n) (upper w) (lower w)) := by
  funext i
  idx_vars i
  pointwise [pairA, allA, zeros, raw2_at, raw3_at, up3_at]
  rfl

theorem gateA_eq (z : Fin 8 → Fin 4096 → Line) : gateA (raw3 z) = up3 (fun b n j => sigma (z b n j)) := by
  funext i
  idx_vars i
  pointwise [gateA, oneA, raw3_at, up3_at]
  exact sigma_coe _

theorem blendA_eq (s x e : Fin 8 → Fin 4096 → Row) :
    blendA (up3 s) (up3 x) (up3 e) = up3 (fun b n j => s b n j * x b n j + (1 - s b n j) * e b n j) := by
  funext i
  idx_vars i
  pointwise [blendA, oneA, up3_at]
  simp only [← EReal.coe_one, ← EReal.coe_mul, ← EReal.coe_sub, ← EReal.coe_add]

theorem addA_eq (x z : Fin 8 → Fin 4096 → Row) : addA (up3 x) (up3 z) = up3 (fun b n j => x b n j + tenth * z b n j) := by
  funext i
  idx_vars i
  pointwise [addA, up3_at]
  simp only [ofBits_tenth, ← EReal.coe_mul, ← EReal.coe_add]

/-! ## The coarse nodes' stages -/

/-- The means of the nodes' rows. -/
def meanC (x : FVec Ideal S8x512x512 .f32) : FVec Ideal S8x512x1 .f32 :=
  Host.divf (broadcastInDim S8x512x1 ![0, 1] bcast_S8x512_S8x512x1_0_1
      (Host.reduceAdd (F := Ideal) x (constant S_ .f32 0x00000000#32) reducesTo_S8x512x512_S8x512_d2 h_S_))
    (broadcastInDim S8x512x1 ![] bcast_S_S8x512x1 (constant S_ .f32 0x44000000#32))

/-- The nodes' rows with their means taken off. -/
def offC (x : FVec Ideal S8x512x512 .f32) : FVec Ideal S8x512x512 .f32 :=
  subf x (broadcastInDim S8x512x512 ![0, 1, 2] bcast_S8x512x1_S8x512x512_0_1_2 (meanC x))

/-- A row of parameters under every node. -/
def allC (b : FVec Ideal S512 .f32) : FVec Ideal S8x512x512 .f32 :=
  broadcastInDim S8x512x512 ![0, 1, 2] bcast_S1x1x512_S8x512x512_0_1_2 (broadcastInDim S1x1x512 ![2] bcast_S512_S1x1x512_2 b)

/-- The root of the nodes' variances and `eps`. -/
def rootC (c : FVec Ideal S8x512x512 .f32) : FVec Ideal S8x512x1 .f32 :=
  Host.sqrt (addf (meanC (mulf c c)) (broadcastInDim S8x512x1 ![] bcast_S_S8x512x1 (constant S_ .f32 0x3727C5AC#32)))

/-- The nodes' rows normalised, negative entries cut to zero. -/
def normC (x : FVec Ideal S8x512x512 .f32) (g b : FVec Ideal S512 .f32) : FVec Ideal S8x512x512 .f32 :=
  maximumf (addf (mulf (Host.divf (offC x) (broadcastInDim S8x512x512 ![0, 1, 2] bcast_S8x512x1_S8x512x512_0_1_2 (rootC (offC x))))
      (allC g)) (allC b))
    (broadcastInDim S8x512x512 ![] bcast_S_S8x512x512 (constant S_ .f32 0x00000000#32))

/-- The nodes' rows times a matrix. -/
def linC (x : FVec Ideal S8x512x512 .f32) (w : FVec Ideal S512x512 .f32) (b : FVec Ideal S512 .f32) : FVec Ideal S8x512x512 .f32 :=
  addf (Host.dotGeneral (F := Ideal) (φ₁ := .f32) (φ₂ := .f32) dot_S8x512x512_S512x512_S8x512x512_2_0_01_1_n_n none x w) (allC b)

/-- Two arrays of nodes' rows side by side times a matrix of twice the height. -/
def pairC (x y : FVec Ideal S8x512x512 .f32) (w : FVec Ideal S1024x512 .f32) (b : FVec Ideal S512 .f32) : FVec Ideal S8x512x512 .f32 :=
  addf (Host.dotGeneral (F := Ideal) (φ₁ := .f32) (φ₂ := .f32) dot_S8x512x1024_S1024x512_S8x512x512_2_0_01_1_n_n none
    (concatenate S8x512x1024 2 [⟨S8x512x512, x⟩, ⟨S8x512x512, y⟩] concatenates_S8x512x512_S8x512x512_S8x512x1024_d2) w) (allC b)

/-- One in every entry. -/
def oneC : FVec Ideal S8x512x512 .f32 := broadcastInDim S8x512x512 ![] bcast_S_S8x512x512 (constant S_ .f32 0x3F800000#32)

/-- The logistic function of every entry. -/
def gateC (z : FVec Ideal S8x512x512 .f32) : FVec Ideal S8x512x512 .f32 :=
  Host.divf oneC (addf oneC (Host.exp (Host.negf z)))

/-- Two arrays weighed by a gate. -/
def blendC (s x e : FVec Ideal S8x512x512 .f32) : FVec Ideal S8x512x512 .f32 :=
  addf (mulf s x) (mulf (subf oneC s) e)

/-- A tenth of one array on top of another. -/
def addC (x z : FVec Ideal S8x512x512 .f32) : FVec Ideal S8x512x512 .f32 :=
  addf x (mulf (broadcastInDim S8x512x512 ![] bcast_S_S8x512x512 (constant S_ .f32 0x3DCCCCCD#32)) z)

theorem meanC_eq (z : Fin 8 → Fin 512 → Line) : meanC (raw3 z) = raw3 (fun b n (_ : Fin 1) => mean (z b n)) := by
  funext i
  idx_vars i
  pointwise [meanC, raw3_at]
  simp only [zero_add, ofBits_512]
  rfl

theorem offC_eq (z : Fin 8 → Fin 512 → Line) : offC (raw3 z) = raw3 (fun b n j => z b n j - mean (z b n)) := by
  unfold offC
  rw [meanC_eq]
  funext i
  idx_vars i
  pointwise [raw3_at]

theorem rootC_eq (z : Fin 8 → Fin 512 → Line) :
    rootC (raw3 fun b n j => z b n j - mean (z b n)) = raw3 (fun b n (_ : Fin 1) => root (z b n)) := by
  have hs : mulf (F := Ideal) (φ := .f32) (raw3 fun b n j => z b n j - mean (z b n)) (raw3 fun b n j => z b n j - mean (z b n))
      = raw3 (fun b n k => (z b n k - mean (z b n)) * (z b n k - mean (z b n))) := rfl
  unfold rootC
  rw [hs, meanC_eq]
  funext i
  idx_vars i
  pointwise [raw3_at]
  simp only [ofBits_eps]
  rfl

theorem normC_eq (z : Fin 8 → Fin 512 → Line) : normC (raw3 z) ones zeros = up3 (fun b n => norm (z b n)) := by
  unfold normC
  rw [offC_eq, rootC_eq]
  funext i
  idx_vars i
  pointwise [allC, ones, zeros, raw3_at, up3_at]
  exact norm_coe (z i0 i1) i2

theorem linC_eq (x : Fin 8 → Fin 512 → Row) (w : Wts) : linC (up3 x) (raw2 w) zeros = raw3 (fun b n => lin (x b n) w) := by
  funext i
  idx_vars i
  pointwise [linC, allC, zeros, raw2_at, raw3_at, up3_at]
  rfl

theorem pairC_eq (x y : Fin 8 → Fin 512 → Row) (w : Fin 1024 → Line) :
    pairC (up3 x) (up3 y) (raw2 w) zeros = raw3 (fun b n => pair (x b n) (y b n) (upper w) (lower w)) := by
  funext i
  idx_vars i
  pointwise [pairC, allC, zeros, raw2_at, raw3_at, up3_at]
  rfl

theorem gateC_eq (z : Fin 8 → Fin 512 → Line) : gateC (raw3 z) = up3 (fun b n j => sigma (z b n j)) := by
  funext i
  idx_vars i
  pointwise [gateC, oneC, raw3_at, up3_at]
  exact sigma_coe _

theorem blendC_eq (s x e : Fin 8 → Fin 512 → Row) :
    blendC (up3 s) (up3 x) (up3 e) = up3 (fun b n j => s b n j * x b n j + (1 - s b n j) * e b n j) := by
  funext i
  idx_vars i
  pointwise [blendC, oneC, up3_at]
  simp only [← EReal.coe_one, ← EReal.coe_mul, ← EReal.coe_sub, ← EReal.coe_add]

theorem addC_eq (x z : Fin 8 → Fin 512 → Row) : addC (up3 x) (up3 z) = up3 (fun b n j => x b n j + tenth * z b n j) := by
  funext i
  idx_vars i
  pointwise [addC, up3_at]
  simp only [ofBits_tenth, ← EReal.coe_mul, ← EReal.coe_add]

end Cert.ReferenceIdeal.Hand

end
-- ==== Proof.RefValue.lean ====
/-
  The reference's two results on real features and any weights.

  Each intermediate array of the reference is one of the stages applied to the arrays before it; on real features
  the results are the atoms' and the coarse nodes' rows of the problem.
-/
module

public import proofs.«01_k».proof.Proof.RefStages

@[expose] public section

set_option maxRecDepth 16384

noncomputable section

open Idealize.ShloMosaic Idealize.ShloMosaic.TcCoe Idealize.SL.Sem

namespace Cert.ReferenceIdeal.Hand

open Cert.ReferenceIdeal Cert.ReferenceIdeal.Gen Cert.ReferenceIdeal.Read Cert.Spec Cert.Lift

/-! ## The atoms -/

/-- The atoms' blend. -/
theorem v125_eq (f : Fin 8 → Fin 4096 → Row) (t : Fin 8 → Mat) (q : Fin 8 → Fin 4096 → BitVec 32) (wc : Wts) (wg : Fin 1024 → Line) :
    val_main_v125 (F := Ideal) (up3 f) (up3 t) (words q) (raw2 wc) zeros ones zeros (raw2 wg) zeros
      = up3 (fun b n => rBlend (norm (lin (rowOf (sel (q b n)) (t b)) wc)) (f b n) (upper wg) (lower wg)) := by
  have h84 : val_main_v84 (F := Ideal) (up3 t) (words q) (raw2 wc) zeros
      = linA (val_main_v80 (F := Ideal) (up3 t) (words q)) (raw2 wc) zeros := rfl
  have h109 : val_main_v109 (F := Ideal) (up3 t) (words q) (raw2 wc) zeros ones zeros
      = normA (val_main_v84 (F := Ideal) (up3 t) (words q) (raw2 wc) zeros) ones zeros := rfl
  have h120 : val_main_v120 (F := Ideal) (up3 f) (up3 t) (words q) (raw2 wc) zeros ones zeros (raw2 wg) zeros
      = gateA (pairA (up3 f) (val_main_v109 (F := Ideal) (up3 t) (words q) (raw2 wc) zeros ones zeros) (raw2 wg) zeros) := rfl
  have h125 : val_main_v125 (F := Ideal) (up3 f) (up3 t) (words q) (raw2 wc) zeros ones zeros (raw2 wg) zeros
      = blendA (val_main_v120 (F := Ideal) (up3 f) (up3 t) (words q) (raw2 wc) zeros ones zeros (raw2 wg) zeros) (up3 f)
          (val_main_v109 (F := Ideal) (up3 t) (words q) (raw2 wc) zeros ones zeros) := rfl
  rw [h125, h120, h109, h84, v80_eq, linA_eq, normA_eq, pairA_eq, gateA_eq, blendA_eq]
  rfl

/-- The atoms' result. -/
theorem v174_eq (D : Data) :
    val_main_v174 (F := Ideal) (up3 D.fine) (up3 D.coarse) (words D.ids) (up3 D.glob) (raw2 D.wc) zeros ones zeros
        (raw2 D.wg) zeros (raw2 D.wi) zeros ones zeros
      = up3 (fineResult D) := by
  have h : val_main_v174 (F := Ideal) (up3 D.fine) (up3 D.coarse) (words D.ids) (up3 D.glob) (raw2 D.wc) zeros ones zeros
        (raw2 D.wg) zeros (raw2 D.wi) zeros ones zeros
      = addA (val_main_v125 (F := Ideal) (up3 D.fine) (up3 D.coarse) (words D.ids) (raw2 D.wc) zeros ones zeros (raw2 D.wg) zeros)
          (normA (pairA (val_main_v125 (F := Ideal) (up3 D.fine) (up3 D.coarse) (words D.ids) (raw2 D.wc) zeros ones zeros (raw2 D.wg) zeros)
            (up3 D.glob) (raw2 D.wi) zeros) ones zeros) := rfl
  rw [h, v125_eq, pairA_eq, normA_eq, addA_eq]
  rfl

/-! ## The coarse nodes -/

/-- The mean of a node's rows. -/
theorem v46_eq (f : Fin 8 → Fin 4096 → Row) (q : Fin 8 → Fin 4096 → BitVec 32) :
    val_main_v46 (F := Ideal) (up3 f) (words q) = up3 (fun b k => pool (fun j => ∑ n, onehot (sel (q b n)) k * f b n j)
      (∑ n, onehot (sel (q b n)) k)) := by
  funext i
  idx_vars i
  have h : val_main_v46 (F := Ideal) (up3 f) (words q) (ix3 i0 i1 i2)
      = Ideal.div (val_main_v27 (F := Ideal) (up3 f) (words q) (ix3 i0 i1 i2)) (max 1 (val_main_v42 (F := Ideal) (words q) (ix2 i0 i1))) := by
    pointwise [val_main_v46, val_main_v45, val_main_v44, val_main_v43, val_main_call1_v1, val_main_call1_v0, val_main_cst_11]
    change Ideal.div _ (max (Ideal.ofBits .f32 0x3F800000#32) _) = _
    rw [Ideal.ofBits_one_f32]
  rw [h, v27_eq, v42_eq, up3_at, up2_at, max_comm, Cert.Lift.max_one, div_max_one]
  rfl

/-- The mean of the global rows under every node. -/
theorem v179_eq (g : Fin 8 → Fin 4096 → Row) :
    val_main_v179 (F := Ideal) (up3 g) = up3 (fun b (_ : Fin 512) j => (∑ n, g b n j) / 4096) := by
  funext i
  idx_vars i
  pointwise [val_main_v179, val_main_v178, val_main_v177, val_main_v176, val_main_v175, val_main_cst_34, val_main_cst_35, up3_at]
  simp only [coe_sum, zero_add, ofBits_4096, div_4096]

/-- The coarse nodes' blend. -/
theorem v141_eq (f : Fin 8 → Fin 4096 → Row) (t : Fin 8 → Mat) (q : Fin 8 → Fin 4096 → BitVec 32) (wf : Wts) (wg : Fin 1024 → Line) :
    val_main_v141 (F := Ideal) (up3 f) (up3 t) (words q) (raw2 wf) zeros ones zeros (raw2 wg) zeros
      = up3 (fun b k => rBlend (norm (lin (pool (fun j => ∑ n, onehot (sel (q b n)) k * f b n j)
          (∑ n, onehot (sel (q b n)) k)) wf)) (t b k) (upper wg) (lower wg)) := by
  have h50 : val_main_v50 (F := Ideal) (up3 f) (words q) (raw2 wf) zeros
      = linC (val_main_v46 (F := Ideal) (up3 f) (words q)) (raw2 wf) zeros := rfl
  have h75 : val_main_v75 (F := Ideal) (up3 f) (words q) (raw2 wf) zeros ones zeros
      = normC (val_main_v50 (F := Ideal) (up3 f) (words q) (raw2 wf) zeros) ones zeros := rfl
  have h136 : val_main_v136 (F := Ideal) (up3 f) (up3 t) (words q) (raw2 wf) zeros ones zeros (raw2 wg) zeros
      = gateC (pairC (up3 t) (val_main_v75 (F := Ideal) (up3 f) (words q) (raw2 wf) zeros ones zeros) (raw2 wg) zeros) := rfl
  have h141 : val_main_v141 (F := Ideal) (up3 f) (up3 t) (words q) (raw2 wf) zeros ones zeros (raw2 wg) zeros
      = blendC (val_main_v136 (F := Ideal) (up3 f) (up3 t) (words q) (raw2 wf) zeros ones zeros (raw2 wg) zeros) (up3 t)
          (val_main_v75 (F := Ideal) (up3 f) (words q) (raw2 wf) zeros ones zeros) := rfl
  rw [h141, h136, h75, h50, v46_eq, linC_eq, normC_eq, pairC_eq, gateC_eq, blendC_eq]
  rfl

/-- The coarse nodes' result. -/
theorem v212_eq (D : Data) :
    val_main_v212 (F := Ideal) (up3 D.fine) (up3 D.coarse) (words D.ids) (up3 D.glob) (raw2 D.wf) zeros ones zeros
        (raw2 D.wg) zeros (raw2 D.wi) zeros ones zeros
      = up3 (coarseResult D) := by
  have h : val_main_v212 (F := Ideal) (up3 D.fine) (up3 D.coarse) (words D.ids) (up3 D.glob) (raw2 D.wf) zeros ones zeros
        (raw2 D.wg) zeros (raw2 D.wi) zeros ones zeros
      = addC (val_main_v141 (F := Ideal) (up3 D.fine) (up3 D.coarse) (words D.ids) (raw2 D.wf) zeros ones zeros (raw2 D.wg) zeros)
          (normC (pairC (val_main_v141 (F := Ideal) (up3 D.fine) (up3 D.coarse) (words D.ids) (raw2 D.wf) zeros ones zeros (raw2 D.wg) zeros)
            (val_main_v179 (F := Ideal) (up3 D.glob)) (raw2 D.wi) zeros) ones zeros) := rfl
  rw [h, v141_eq, v179_eq, pairC_eq, normC_eq, addC_eq]
  rfl

end Cert.ReferenceIdeal.Hand

end
-- ==== Proof.Params.lean ====
/-
  What the precondition says: the features are real numbers, the biases zero and the gains one.
-/
module

public import proofs.«01_k».proof.Proof.RefStages
public import proofs.«01_k».proof.Proof.Gen.Pre_plain_params
public import Idealize.ShloMosaic.Lib.ReduceAll

@[expose] public section

set_option maxRecDepth 16384

noncomputable section

open Idealize.ShloMosaic Idealize.ShloMosaic.TcCoe Idealize.SL.Sem

namespace Cert.Pre_plain_params.Hand

open Cert.Pre_plain_params Cert.Spec Cert.Lift Cert.ReferenceIdeal.Hand

instance : Subsingleton S_.Idx := ⟨fun a b => funext fun k => k.elim0⟩

/-- An extended real whose magnitude is below infinity is a real number. -/
theorem real_of_below (x : EReal) (h : Ideal.cmp .olt (max x (-x)) (Ideal.ofBits .f32 0x7F800000#32) = 1#1) :
    x = ((x.toReal : ℝ) : EReal) := by
  have ht : Ideal.ofBits .f32 0x7F800000#32 = ⊤ := by simp [Ideal.ofBits, Ideal.ieee]
  rw [ht] at h
  induction x with
  | bot => simp [Ideal.cmp] at h
  | top => simp [Ideal.cmp] at h
  | coe r => rfl

/-- An array that passes the test for real numbers holds real numbers. -/
theorem reals {s : Shape} {axes : List (Fin s.rank)} (x : FVec Ideal s .f32) (hb : S_.BroadcastsInDim s (![] : Fin 0 → Fin s.rank))
    (hr : s.ReducesTo axes S_) (hu : 0 < S_.numel) (j : S_.Idx)
    (e : Host.reduce IntOp.andi (cmpf (F := Ideal) .olt (Host.absf (F := Ideal) x) (broadcastInDim s ![] hb (constant S_ .f32 0x7F800000#32)))
      (constantI S_ 1 1#1) hr hu j = 1#1) (i : s.Idx) : x i = (((x i : EReal).toReal : ℝ) : EReal) :=
  real_of_below _ (Host.reduce_andi_all _ _ hr hu j e i)

/-- A row that passes the test against a number has that number in every entry. -/
theorem entries (x : FVec Ideal S512 .f32) (w : BitVec 32) (hb : S_.BroadcastsInDim S512 (![] : Fin 0 → Fin S512.rank))
    (hr : S512.ReducesTo [0] S_) (hu : 0 < S_.numel) (j : S_.Idx)
    (e : Host.reduce IntOp.andi (cmpf (F := Ideal) .oeq x (broadcastInDim S512 ![] hb (constant S_ .f32 w)))
      (constantI S_ 1 1#1) hr hu j = 1#1) : x = fun _ => Ideal.ofBits .f32 w := by
  funext i
  have h : Ideal.cmp .oeq (x i) (Ideal.ofBits .f32 w) = 1#1 := Host.reduce_andi_all _ _ hr hu j e i
  by_contra hne
  simp [Ideal.cmp, hne] at h

theorem is_zeros (x : FVec Ideal S512 .f32) (h : x = fun _ => Ideal.ofBits .f32 0x00000000#32) : x = zeros := by
  rw [h]
  funext i
  exact Ideal.ofBits_zero_f32

theorem is_ones (x : FVec Ideal S512 .f32) (h : x = fun _ => Ideal.ofBits .f32 0x3F800000#32) : x = ones := by
  rw [h]
  funext i
  exact Ideal.ofBits_one_f32

theorem keep2 {a b : ℕ} (x : FVec Ideal ⟨2, ![a, b]⟩ .f32) : x = raw2 (fun p q => x (ix2 p q)) := by
  funext i
  exact congrArg x (ValueIdx.eq_ix2 i)

theorem lift3 {a b c : ℕ} (x : FVec Ideal ⟨3, ![a, b, c]⟩ .f32) (h : ∀ i, x i = (((x i : EReal).toReal : ℝ) : EReal)) :
    x = up3 (fun p q r => ((x (ix3 p q r) : EReal).toReal)) := by
  funext i
  exact (h i).trans (congrArg (fun y => (((x y : EReal).toReal : ℝ) : EReal)) (ValueIdx.eq_ix3 i))

/-- The inputs the arguments hold. -/
def data (x0 : FVec Ideal S8x4096x512 .f32) (x1 : FVec Ideal S8x512x512 .f32) (x2 : IVec S8x4096 32) (x3 : FVec Ideal S8x4096x512 .f32)
    (x4 x8 : FVec Ideal S512x512 .f32) (x12 x14 : FVec Ideal S1024x512 .f32) : Data where
  fine := fun p q r => ((x0 (ix3 p q r) : EReal).toReal)
  coarse := fun p q r => ((x1 (ix3 p q r) : EReal).toReal)
  ids := fun p q => x2 (ix2 p q)
  glob := fun p q r => ((x3 (ix3 p q r) : EReal).toReal)
  wf := fun p q => x4 (ix2 p q)
  wc := fun p q => x8 (ix2 p q)
  wg := fun p q => x12 (ix2 p q)
  wi := fun p q => x14 (ix2 p q)

variable (x0 : FVec Ideal S8x4096x512 .f32) (x1 : FVec Ideal S8x512x512 .f32) (x2 : IVec S8x4096 32) (x3 : FVec Ideal S8x4096x512 .f32)
  (x4 : FVec Ideal S512x512 .f32) (x5 x6 x7 : FVec Ideal S512 .f32) (x8 : FVec Ideal S512x512 .f32) (x9 x10 x11 : FVec Ideal S512 .f32)
  (x12 : FVec Ideal S1024x512 .f32) (x13 : FVec Ideal S512 .f32) (x14 : FVec Ideal S1024x512 .f32) (x15 x16 x17 : FVec Ideal S512 .f32)

/-- The arguments hold the inputs `D`, no bias and no gain. -/
structure Plain (D : Data) : Prop where
  fine : x0 = up3 D.fine
  coarse : x1 = up3 D.coarse
  ids : x2 = words D.ids
  glob : x3 = up3 D.glob
  wf : x4 = raw2 D.wf
  wc : x8 = raw2 D.wc
  wg : x12 = raw2 D.wg
  wi : x14 = raw2 D.wi
  b5 : x5 = zeros
  g6 : x6 = ones
  b7 : x7 = zeros
  b9 : x9 = zeros
  g10 : x10 = ones
  b11 : x11 = zeros
  b13 : x13 = zeros
  b15 : x15 = zeros
  g16 : x16 = ones
  b17 : x17 = zeros

/-- The precondition gives plain arguments. -/
theorem plain (h : fn (F := Ideal) x0 x1 x2 x3 x4 x5 x6 x7 x8 x9 x10 x11 x12 x13 x14 x15 x16 x17 = fun _ => 1#1) :
    Plain x0 x1 x2 x3 x4 x5 x6 x7 x8 x9 x10 x11 x12 x13 x14 x15 x16 x17 (data x0 x1 x2 x3 x4 x8 x12 x14) := by
  have e := congrFun h ix0
  simp only [fn, fn_part1, fn_part2, fn_part3, andi, IntOp.andi_eq_one] at e
  obtain ⟨⟨⟨⟨⟨⟨⟨⟨⟨⟨⟨⟨h0, h1⟩, h3⟩, h5⟩, h7⟩, h9⟩, h11⟩, h13⟩, h15⟩, h17⟩, h6⟩, h10⟩, h16⟩ := e
  exact {
    fine := lift3 x0 (reals x0 _ _ _ _ h0)
    coarse := lift3 x1 (reals x1 _ _ _ _ h1)
    ids := by
      funext i
      idx_vars i
      rfl
    glob := lift3 x3 (reals x3 _ _ _ _ h3)
    wf := keep2 x4
    wc := keep2 x8
    wg := keep2 x12
    wi := keep2 x14
    b5 := is_zeros x5 (entries x5 _ _ _ _ _ h5)
    g6 := is_ones x6 (entries x6 _ _ _ _ _ h6)
    b7 := is_zeros x7 (entries x7 _ _ _ _ _ h7)
    b9 := is_zeros x9 (entries x9 _ _ _ _ _ h9)
    g10 := is_ones x10 (entries x10 _ _ _ _ _ h10)
    b11 := is_zeros x11 (entries x11 _ _ _ _ _ h11)
    b13 := is_zeros x13 (entries x13 _ _ _ _ _ h13)
    b15 := is_zeros x15 (entries x15 _ _ _ _ _ h15)
    g16 := is_ones x16 (entries x16 _ _ _ _ _ h16)
    b17 := is_zeros x17 (entries x17 _ _ _ _ _ h17) }

end Cert.Pre_plain_params.Hand

end
-- ==== Proof.Agree.lean ====
/-
  The kernel and the reference agree: on plain arguments both leave the problem's rows.
-/
module

public import proofs.«01_k».proof.Defs
public import proofs.«01_k».proof.Proof.Arrays
public import proofs.«01_k».proof.Proof.RefValue
public import proofs.«01_k».proof.Proof.Params
public import proofs.«01_k».proof.Proof.Gen.KernelIdeal.Value

@[expose] public section

set_option maxRecDepth 16384

noncomputable section

open Idealize.ShloMosaic Idealize.ShloMosaic.TcCoe Idealize.SL.Sem

namespace Cert.Agree

open Cert.Spec Cert.Lift Cert.Pre_plain_params.Hand

section
open Cert.Pre_plain_params

variable {x0 : FVec Ideal S8x4096x512 .f32} {x1 : FVec Ideal S8x512x512 .f32} {x2 : IVec S8x4096 32} {x3 : FVec Ideal S8x4096x512 .f32}
  {x4 : FVec Ideal S512x512 .f32} {x5 x6 x7 : FVec Ideal S512 .f32} {x8 : FVec Ideal S512x512 .f32} {x9 x10 x11 : FVec Ideal S512 .f32}
  {x12 : FVec Ideal S1024x512 .f32} {x13 : FVec Ideal S512 .f32} {x14 : FVec Ideal S1024x512 .f32} {x15 x16 x17 : FVec Ideal S512 .f32}
  {D : Data}

/-- The reference's first result on plain arguments. -/
theorem ref_fine (P : Plain x0 x1 x2 x3 x4 x5 x6 x7 x8 x9 x10 x11 x12 x13 x14 x15 x16 x17 D) :
    Cert.ReferenceIdeal.Read.val_main_v174 (F := Ideal) x0 x1 x2 x3 x8 x9 x10 x11 x12 x13 x14 x15 x16 x17 = up3 (fineResult D) := by
  obtain ⟨rfl, rfl, rfl, rfl, rfl, rfl, rfl, rfl, rfl, rfl, rfl, rfl, rfl, rfl, rfl, rfl, rfl, rfl⟩ := P
  exact Cert.ReferenceIdeal.Hand.v174_eq D

/-- The reference's second result on plain arguments. -/
theorem ref_coarse (P : Plain x0 x1 x2 x3 x4 x5 x6 x7 x8 x9 x10 x11 x12 x13 x14 x15 x16 x17 D) :
    Cert.ReferenceIdeal.Read.val_main_v212 (F := Ideal) x0 x1 x2 x3 x4 x5 x6 x7 x12 x13 x14 x15 x16 x17 = up3 (coarseResult D) := by
  obtain ⟨rfl, rfl, rfl, rfl, rfl, rfl, rfl, rfl, rfl, rfl, rfl, rfl, rfl, rfl, rfl, rfl, rfl, rfl⟩ := P
  exact Cert.ReferenceIdeal.Hand.v212_eq D

end

section
open Cert.KernelIdeal

variable (m : (ℓ : Loc nD τ sig) → Buf (Elt Ideal) ℓ) (c : Dev nD)

/-- The inputs in the kernel's argument buffers. -/
def inputs : Data :=
  data (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg8))
    (m ((c : Thread nD τ).loc main_arg12)) (m ((c : Thread nD τ).loc main_arg14))

variable {m c}

/-- Under the precondition the kernel's arguments are plain. -/
theorem plain_args (h : Cert.Pre_KernelIdeal_plain_params m) :
    Plain (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) (m ((c : Thread nD τ).loc main_arg11))
      (m ((c : Thread nD τ).loc main_arg12)) (m ((c : Thread nD τ).loc main_arg13)) (m ((c : Thread nD τ).loc main_arg14))
      (m ((c : Thread nD τ).loc main_arg15)) (m ((c : Thread nD τ).loc main_arg16)) (m ((c : Thread nD τ).loc main_arg17))
      (inputs m c) :=
  plain _ _ _ _ _ _ _ _ _ _ _ _ _ _ _ _ _ _ (h c)

/-- Under the precondition the kernel's argument buffers hold the inputs. -/
theorem holds (h : Cert.Pre_KernelIdeal_plain_params m) : Cert.KernelIdeal.Hand.Holds m c (inputs m c) :=
  have P := plain_args (c := c) h
  ⟨P.fine, P.coarse, P.ids, P.glob, P.wf, P.wc, P.wg, P.wi⟩

end

/-- The two programs' results are equal under the precondition. -/
theorem agree : Cert.algebraic_KernelIdeal_ReferenceIdeal_pre_plain_params := by
  intro m g m' g' hpre hargs
  refine ⟨fun c => up3 (fineResult (inputs m c)), fun c => up3 (coarseResult (inputs m c)), ?_, ?_⟩
  · refine (θ_run Cert.KernelIdeal.defs _ _).mono (fun r h c => ?_) (Cert.KernelIdeal.Value.run_blocks (F := Ideal) m g)
    exact ⟨(h c).1.trans (Cert.KernelIdeal.Hand.array_fine (holds hpre)), (h c).2.1.trans (Cert.KernelIdeal.Hand.array_coarse (holds hpre)), (h c).2.2⟩
  · refine (θ_run Cert.ReferenceIdeal.defs _ _).mono (fun r h c => ?_) (Cert.ReferenceIdeal.Value.run (F := Ideal) m' g')
    obtain ⟨a0, a1, a2, a3, a4, a5, a6, a7, a8, a9, a10, a11, a12, a13, a14, a15, a16, a17⟩ := hargs c
    have P := plain_args (c := c) hpre
    rw [← a0, ← a1, ← a2, ← a3, ← a4, ← a5, ← a6, ← a7, ← a8, ← a9, ← a10, ← a11, ← a12, ← a13, ← a14, ← a15, ← a16, ← a17] at P
    exact ⟨((h c).1.trans (Cert.ReferenceIdeal.Read.val_main_v174_eq _)).trans (ref_fine P),
      ((h c).2.1.trans (Cert.ReferenceIdeal.Read.val_main_v212_eq _)).trans (ref_coarse P), (h c).2.2⟩

end Cert.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_plain_params
public import proofs.«01_k».proof.Proof.Gen.KernelIdeal.Value
public import proofs.«01_k».proof.Proof.Gen.ReferenceIdeal.Run
public import proofs.«01_k».proof.Proof.Gen.ReferenceIdeal.Read
public import proofs.«01_k».proof.Proof.Agree
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The printed kernel's frame, at the words. -/
theorem frame_p : Cert.quiescent_Kernel := fun m ρ _ => Cert.Kernel.Gen.frame m ρ

/-- The ideal kernel's frame, at the extended reals. -/
theorem frame_pi : Cert.quiescent_KernelIdeal := fun m ρ _ => Cert.KernelIdeal.Gen.frame m ρ

/-- The ideal reference's frame: its run leaves the arguments, and it declares no semaphore. -/
theorem frame_ri : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The ideal kernel's frame under the precondition. -/
theorem frame_pi_pre : Cert.quiescent_KernelIdeal_pre_plain_params := fun m ρ _ => Cert.KernelIdeal.Gen.frame m ρ

/-- The ideal reference's frame under the precondition. -/
theorem frame_ri_pre : Cert.quiescent_ReferenceIdeal_pre_plain_params := fun m ρ _ => frame_ri m ρ True.intro

theorem claim : Cert.Claim := ⟨Cert.Kernel.Gen.facts, Cert.KernelIdeal.Gen.facts, Cert.ReferenceIdeal.Gen.facts,
  Cert.Pre_plain_params.Gen.facts, frame_p, frame_pi, frame_pi_pre, frame_ri, frame_ri_pre, trivial, Cert.Agree.agree⟩

end Cert.Proof

end
